-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.block ⟨2, ![4096, 2048]⟩ ⟨2, ![4096, 8192]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S4096x8192 : Shape := ⟨2, ![4096, 8192]⟩
abbrev S4096x2048 : Shape := ⟨2, ![4096, 2048]⟩
abbrev S2x4096x1024 : Shape := ⟨3, ![2, 4096, 1024]⟩
abbrev S4x1024x1024 : Shape := ⟨3, ![4, 1024, 1024]⟩
abbrev S4x8x128 : Shape := ⟨3, ![4, 8, 128]⟩
abbrev S2x4 : Shape := ⟨2, ![2, 4]⟩
abbrev S6 : Shape := ⟨1, ![6]⟩
abbrev S3x2 : Shape := ⟨2, ![3, 2]⟩
abbrev S3 : Shape := ⟨1, ![3]⟩
abbrev S2 : Shape := ⟨1, ![2]⟩
abbrev S_ : Shape := ⟨0, ![]⟩
abbrev S1x1 : Shape := ⟨2, ![1, 1]⟩
abbrev S1x1024x1024 : Shape := ⟨3, ![1, 1024, 1024]⟩
abbrev S1024x1024 : Shape := ⟨2, ![1024, 1024]⟩
abbrev S1x4096x1024 : Shape := ⟨3, ![1, 4096, 1024]⟩
abbrev S4096x1024 : Shape := ⟨2, ![4096, 1024]⟩
abbrev S1 : Shape := ⟨1, ![1]⟩
abbrev S1x1x1 : Shape := ⟨3, ![1, 1, 1]⟩
abbrev S1x8x128 : Shape := ⟨3, ![1, 8, 128]⟩
abbrev S1x4x8x128 : Shape := ⟨4, ![1, 4, 8, 128]⟩
abbrev S1x1x1x1 : Shape := ⟨4, ![1, 1, 1, 1]⟩
abbrev S256x1024 : Shape := ⟨2, ![256, 1024]⟩
abbrev S1x256x1024 : Shape := ⟨3, ![1, 256, 1024]⟩

abbrev nBuf : Space → Nat
  | .hbm => 4
  | .vmem => 4
  | .smem => 0
  | _ => 0

abbrev bufTy : (tb : Table) → Fin (tcTables nBuf tb) → BufTy
  | .hbm, ⟨0, _⟩ => ⟨S1024x4096, .f32⟩
  | .hbm, ⟨1, _⟩ => ⟨S4096x8192, .f32⟩
  | .hbm, ⟨2, _⟩ => ⟨S4096x2048, .f32⟩
  | .hbm, ⟨3, _⟩ => ⟨S4096x2048, .bf16⟩
  | .local _ .vmem, ⟨0, _⟩ => ⟨S1024x4096, .f32⟩
  | .local _ .vmem, ⟨1, _⟩ => ⟨S2x4096x1024, .f32⟩
  | .local _ .vmem, ⟨2, _⟩ => ⟨S4x1024x1024, .bf16⟩
  | .local _ .vmem, ⟨3, _⟩ => ⟨S4x8x128, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  (ofTc nBuf bufTy 1 45 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) (c0_i32_29 : BitVec 32) (c0_i32_36 : BitVec 32) : Fin 2 → Nat :=
  let c0_i32_42 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_28 : BitVec 32 := 1#32
  let v43 : BitVec 32 := Scalar.addi v2 c1_i32_28
  let v44 : BitVec 32 := Scalar.addi v43 c0_i32_29
  let c4_i32_30 : BitVec 32 := 4#32
  let c0_i32_31 : BitVec 32 := 0#32
  let v45 : BitVec 1 := Scalar.cmpi .eq c4_i32_30 c0_i32_31
  let c1_i32_32 : BitVec 32 := 1#32
  let v46 : BitVec 32 := Scalar.select v45 c1_i32_32 c4_i32_30
  let v47 : BitVec 32 := Scalar.remsi v44 v46
  let c0_i32_34 : BitVec 32 := 0#32
  let v49 : BitVec 1 := Scalar.cmpi .slt v47 c0_i32_34
  let c0_i32_35 : BitVec 32 := 0#32
  let v50 : BitVec 1 := Scalar.cmpi .slt v46 c0_i32_35
  let v51 : BitVec 1 := Scalar.xori v49 v50
  let c0_i32_33 : BitVec 32 := 0#32
  let v48 : BitVec 1 := Scalar.cmpi .ne v47 c0_i32_33
  let v52 : BitVec 1 := Scalar.andi v51 v48
  let v53 : BitVec 32 := Scalar.addi v47 v46
  let v54 : BitVec 32 := Scalar.select v52 v53 v47
  let c2048_i32 : BitVec 32 := 2048#32
  let v55 : BitVec 32 := Scalar.muli v54 c2048_i32
  let v56 : BitVec 32 := Scalar.addi v55 c0_i32_36
  ![0, v56.toNat]
def k0_off2 (d0 : Dev nD) (c0_i32_29 : BitVec 32) (c0_i32_36 : BitVec 32) : Fin 2 → Nat :=
  let c1024_i32_47 : BitVec 32 := 1024#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_28 : BitVec 32 := 1#32
  let v43 : BitVec 32 := Scalar.addi v2 c1_i32_28
  let v44 : BitVec 32 := Scalar.addi v43 c0_i32_29
  let c4_i32_30 : BitVec 32 := 4#32
  let c0_i32_31 : BitVec 32 := 0#32
  let v45 : BitVec 1 := Scalar.cmpi .eq c4_i32_30 c0_i32_31
  let c1_i32_32 : BitVec 32 := 1#32
  let v46 : BitVec 32 := Scalar.select v45 c1_i32_32 c4_i32_30
  let v47 : BitVec 32 := Scalar.remsi v44 v46
  let c0_i32_34 : BitVec 32 := 0#32
  let v49 : BitVec 1 := Scalar.cmpi .slt v47 c0_i32_34
  let c0_i32_35 : BitVec 32 := 0#32
  let v50 : BitVec 1 := Scalar.cmpi .slt v46 c0_i32_35
  let v51 : BitVec 1 := Scalar.xori v49 v50
  let c0_i32_33 : BitVec 32 := 0#32
  let v48 : BitVec 1 := Scalar.cmpi .ne v47 c0_i32_33
  let v52 : BitVec 1 := Scalar.andi v51 v48
  let v53 : BitVec 32 := Scalar.addi v47 v46
  let v54 : BitVec 32 := Scalar.select v52 v53 v47
  let c2048_i32 : BitVec 32 := 2048#32
  let v55 : BitVec 32 := Scalar.muli v54 c2048_i32
  let v56 : BitVec 32 := Scalar.addi v55 c0_i32_36
  ![1024, v56.toNat]
def k0_off3 (d0 : Dev nD) (c0_i32_29 : BitVec 32) (c0_i32_36 : BitVec 32) : Fin 2 → Nat :=
  let c2048_i32_53 : BitVec 32 := 2048#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_28 : BitVec 32 := 1#32
  let v43 : BitVec 32 := Scalar.addi v2 c1_i32_28
  let v44 : BitVec 32 := Scalar.addi v43 c0_i32_29
  let c4_i32_30 : BitVec 32 := 4#32
  let c0_i32_31 : BitVec 32 := 0#32
  let v45 : BitVec 1 := Scalar.cmpi .eq c4_i32_30 c0_i32_31
  let c1_i32_32 : BitVec 32 := 1#32
  let v46 : BitVec 32 := Scalar.select v45 c1_i32_32 c4_i32_30
  let v47 : BitVec 32 := Scalar.remsi v44 v46
  let c0_i32_34 : BitVec 32 := 0#32
  let v49 : BitVec 1 := Scalar.cmpi .slt v47 c0_i32_34
  let c0_i32_35 : BitVec 32 := 0#32
  let v50 : BitVec 1 := Scalar.cmpi .slt v46 c0_i32_35
  let v51 : BitVec 1 := Scalar.xori v49 v50
  let c0_i32_33 : BitVec 32 := 0#32
  let v48 : BitVec 1 := Scalar.cmpi .ne v47 c0_i32_33
  let v52 : BitVec 1 := Scalar.andi v51 v48
  let v53 : BitVec 32 := Scalar.addi v47 v46
  let v54 : BitVec 32 := Scalar.select v52 v53 v47
  let c2048_i32 : BitVec 32 := 2048#32
  let v55 : BitVec 32 := Scalar.muli v54 c2048_i32
  let v56 : BitVec 32 := Scalar.addi v55 c0_i32_36
  ![2048, v56.toNat]
def k0_off4 (d0 : Dev nD) (c0_i32_29 : BitVec 32) (c0_i32_36 : BitVec 32) : Fin 2 → Nat :=
  let c3072_i32_58 : BitVec 32 := 3072#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_28 : BitVec 32 := 1#32
  let v43 : BitVec 32 := Scalar.addi v2 c1_i32_28
  let v44 : BitVec 32 := Scalar.addi v43 c0_i32_29
  let c4_i32_30 : BitVec 32 := 4#32
  let c0_i32_31 : BitVec 32 := 0#32
  let v45 : BitVec 1 := Scalar.cmpi .eq c4_i32_30 c0_i32_31
  let c1_i32_32 : BitVec 32 := 1#32
  let v46 : BitVec 32 := Scalar.select v45 c1_i32_32 c4_i32_30
  let v47 : BitVec 32 := Scalar.remsi v44 v46
  let c0_i32_34 : BitVec 32 := 0#32
  let v49 : BitVec 1 := Scalar.cmpi .slt v47 c0_i32_34
  let c0_i32_35 : BitVec 32 := 0#32
  let v50 : BitVec 1 := Scalar.cmpi .slt v46 c0_i32_35
  let v51 : BitVec 1 := Scalar.xori v49 v50
  let c0_i32_33 : BitVec 32 := 0#32
  let v48 : BitVec 1 := Scalar.cmpi .ne v47 c0_i32_33
  let v52 : BitVec 1 := Scalar.andi v51 v48
  let v53 : BitVec 32 := Scalar.addi v47 v46
  let v54 : BitVec 32 := Scalar.select v52 v53 v47
  let c2048_i32 : BitVec 32 := 2048#32
  let v55 : BitVec 32 := Scalar.muli v54 c2048_i32
  let v56 : BitVec 32 := Scalar.addi v55 c0_i32_36
  ![3072, v56.toNat]
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_144 : BitVec 32 := 1024#32
  let v172 : BitVec 32 := Scalar.muli v2 c1024_i32_144
  let c0_i32_151 : BitVec 32 := 0#32
  ![v172.toNat, 0]
def k0_dev4 (d0 : Dev nD) : Nat :=
  let c0_i32_150 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_133 : BitVec 32 := 1#32
  let v156 : BitVec 32 := Scalar.addi v2 c1_i32_133
  let c0_i32_134 : BitVec 32 := 0#32
  let v157 : BitVec 32 := Scalar.addi v156 c0_i32_134
  let c4_i32_135 : BitVec 32 := 4#32
  let c0_i32_136 : BitVec 32 := 0#32
  let v158 : BitVec 1 := Scalar.cmpi .eq c4_i32_135 c0_i32_136
  let c1_i32_137 : BitVec 32 := 1#32
  let v159 : BitVec 32 := Scalar.select v158 c1_i32_137 c4_i32_135
  let v160 : BitVec 32 := Scalar.remsi v157 v159
  let c0_i32_139 : BitVec 32 := 0#32
  let v162 : BitVec 1 := Scalar.cmpi .slt v160 c0_i32_139
  let c0_i32_140 : BitVec 32 := 0#32
  let v163 : BitVec 1 := Scalar.cmpi .slt v159 c0_i32_140
  let v164 : BitVec 1 := Scalar.xori v162 v163
  let c0_i32_138 : BitVec 32 := 0#32
  let v161 : BitVec 1 := Scalar.cmpi .ne v160 c0_i32_138
  let v165 : BitVec 1 := Scalar.andi v164 v161
  let v166 : BitVec 32 := Scalar.addi v160 v159
  let v167 : BitVec 32 := Scalar.select v165 v166 v160
  let c1_i32_149 : BitVec 32 := 1#32
  let v173 : BitVec 32 := Scalar.muli v167 c1_i32_149
  let v174 : BitVec 32 := Scalar.addi c0_i32_150 v173
  v174.toNat
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_239 : BitVec 32 := 1024#32
  let v277 : BitVec 32 := Scalar.muli v2 c1024_i32_239
  let c1024_i32_246 : BitVec 32 := 1024#32
  ![v277.toNat, 1024]
def k0_dev5 (d0 : Dev nD) : Nat :=
  let c0_i32_245 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_228 : BitVec 32 := 1#32
  let v261 : BitVec 32 := Scalar.addi v2 c1_i32_228
  let c0_i32_229 : BitVec 32 := 0#32
  let v262 : BitVec 32 := Scalar.addi v261 c0_i32_229
  let c4_i32_230 : BitVec 32 := 4#32
  let c0_i32_231 : BitVec 32 := 0#32
  let v263 : BitVec 1 := Scalar.cmpi .eq c4_i32_230 c0_i32_231
  let c1_i32_232 : BitVec 32 := 1#32
  let v264 : BitVec 32 := Scalar.select v263 c1_i32_232 c4_i32_230
  let v265 : BitVec 32 := Scalar.remsi v262 v264
  let c0_i32_234 : BitVec 32 := 0#32
  let v267 : BitVec 1 := Scalar.cmpi .slt v265 c0_i32_234
  let c0_i32_235 : BitVec 32 := 0#32
  let v268 : BitVec 1 := Scalar.cmpi .slt v264 c0_i32_235
  let v269 : BitVec 1 := Scalar.xori v267 v268
  let c0_i32_233 : BitVec 32 := 0#32
  let v266 : BitVec 1 := Scalar.cmpi .ne v265 c0_i32_233
  let v270 : BitVec 1 := Scalar.andi v269 v266
  let v271 : BitVec 32 := Scalar.addi v265 v264
  let v272 : BitVec 32 := Scalar.select v270 v271 v265
  let c1_i32_244 : BitVec 32 := 1#32
  let v278 : BitVec 32 := Scalar.muli v272 c1_i32_244
  let v279 : BitVec 32 := Scalar.addi c0_i32_245 v278
  v279.toNat
def k0_dev6 (d0 : Dev nD) : Nat :=
  let c0_i32_340 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_324 : BitVec 32 := 1#32
  let v366 : BitVec 32 := Scalar.addi v2 c1_i32_324
  let c1_i32_325 : BitVec 32 := 1#32
  let v367 : BitVec 32 := Scalar.addi v366 c1_i32_325
  let c4_i32_326 : BitVec 32 := 4#32
  let c0_i32_327 : BitVec 32 := 0#32
  let v368 : BitVec 1 := Scalar.cmpi .eq c4_i32_326 c0_i32_327
  let c1_i32_328 : BitVec 32 := 1#32
  let v369 : BitVec 32 := Scalar.select v368 c1_i32_328 c4_i32_326
  let v370 : BitVec 32 := Scalar.remsi v367 v369
  let c0_i32_330 : BitVec 32 := 0#32
  let v372 : BitVec 1 := Scalar.cmpi .slt v370 c0_i32_330
  let c0_i32_331 : BitVec 32 := 0#32
  let v373 : BitVec 1 := Scalar.cmpi .slt v369 c0_i32_331
  let v374 : BitVec 1 := Scalar.xori v372 v373
  let c0_i32_329 : BitVec 32 := 0#32
  let v371 : BitVec 1 := Scalar.cmpi .ne v370 c0_i32_329
  let v375 : BitVec 1 := Scalar.andi v374 v371
  let v376 : BitVec 32 := Scalar.addi v370 v369
  let v377 : BitVec 32 := Scalar.select v375 v376 v370
  let c1_i32_339 : BitVec 32 := 1#32
  let v383 : BitVec 32 := Scalar.muli v377 c1_i32_339
  let v384 : BitVec 32 := Scalar.addi c0_i32_340 v383
  v384.toNat
def k0_dev7 (d0 : Dev nD) : Nat :=
  let c0_i32_435 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_419 : BitVec 32 := 1#32
  let v471 : BitVec 32 := Scalar.addi v2 c1_i32_419
  let c1_i32_420 : BitVec 32 := 1#32
  let v472 : BitVec 32 := Scalar.addi v471 c1_i32_420
  let c4_i32_421 : BitVec 32 := 4#32
  let c0_i32_422 : BitVec 32 := 0#32
  let v473 : BitVec 1 := Scalar.cmpi .eq c4_i32_421 c0_i32_422
  let c1_i32_423 : BitVec 32 := 1#32
  let v474 : BitVec 32 := Scalar.select v473 c1_i32_423 c4_i32_421
  let v475 : BitVec 32 := Scalar.remsi v472 v474
  let c0_i32_425 : BitVec 32 := 0#32
  let v477 : BitVec 1 := Scalar.cmpi .slt v475 c0_i32_425
  let c0_i32_426 : BitVec 32 := 0#32
  let v478 : BitVec 1 := Scalar.cmpi .slt v474 c0_i32_426
  let v479 : BitVec 1 := Scalar.xori v477 v478
  let c0_i32_424 : BitVec 32 := 0#32
  let v476 : BitVec 1 := Scalar.cmpi .ne v475 c0_i32_424
  let v480 : BitVec 1 := Scalar.andi v479 v476
  let v481 : BitVec 32 := Scalar.addi v475 v474
  let v482 : BitVec 32 := Scalar.select v480 v481 v475
  let c1_i32_434 : BitVec 32 := 1#32
  let v488 : BitVec 32 := Scalar.muli v482 c1_i32_434
  let v489 : BitVec 32 := Scalar.addi c0_i32_435 v488
  v489.toNat
def k0_dev8 (d0 : Dev nD) : Nat :=
  let c0_i32_539 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_514 : BitVec 32 := 1#32
  let v576 : BitVec 32 := Scalar.addi v2 c1_i32_514
  let c2_i32_515 : BitVec 32 := 2#32
  let v577 : BitVec 32 := Scalar.addi v576 c2_i32_515
  let c4_i32_516 : BitVec 32 := 4#32
  let c0_i32_517 : BitVec 32 := 0#32
  let v578 : BitVec 1 := Scalar.cmpi .eq c4_i32_516 c0_i32_517
  let c1_i32_518 : BitVec 32 := 1#32
  let v579 : BitVec 32 := Scalar.select v578 c1_i32_518 c4_i32_516
  let v580 : BitVec 32 := Scalar.remsi v577 v579
  let c0_i32_520 : BitVec 32 := 0#32
  let v582 : BitVec 1 := Scalar.cmpi .slt v580 c0_i32_520
  let c0_i32_521 : BitVec 32 := 0#32
  let v583 : BitVec 1 := Scalar.cmpi .slt v579 c0_i32_521
  let v584 : BitVec 1 := Scalar.xori v582 v583
  let c0_i32_519 : BitVec 32 := 0#32
  let v581 : BitVec 1 := Scalar.cmpi .ne v580 c0_i32_519
  let v585 : BitVec 1 := Scalar.andi v584 v581
  let v586 : BitVec 32 := Scalar.addi v580 v579
  let v587 : BitVec 32 := Scalar.select v585 v586 v580
  let c1_i32_538 : BitVec 32 := 1#32
  let v598 : BitVec 32 := Scalar.muli v587 c1_i32_538
  let v599 : BitVec 32 := Scalar.addi c0_i32_539 v598
  v599.toNat
def k0_dev9 (d0 : Dev nD) : Nat :=
  let c0_i32_642 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_618 : BitVec 32 := 1#32
  let v686 : BitVec 32 := Scalar.addi v2 c1_i32_618
  let c2_i32_619 : BitVec 32 := 2#32
  let v687 : BitVec 32 := Scalar.addi v686 c2_i32_619
  let c4_i32_620 : BitVec 32 := 4#32
  let c0_i32_621 : BitVec 32 := 0#32
  let v688 : BitVec 1 := Scalar.cmpi .eq c4_i32_620 c0_i32_621
  let c1_i32_622 : BitVec 32 := 1#32
  let v689 : BitVec 32 := Scalar.select v688 c1_i32_622 c4_i32_620
  let v690 : BitVec 32 := Scalar.remsi v687 v689
  let c0_i32_624 : BitVec 32 := 0#32
  let v692 : BitVec 1 := Scalar.cmpi .slt v690 c0_i32_624
  let c0_i32_625 : BitVec 32 := 0#32
  let v693 : BitVec 1 := Scalar.cmpi .slt v689 c0_i32_625
  let v694 : BitVec 1 := Scalar.xori v692 v693
  let c0_i32_623 : BitVec 32 := 0#32
  let v691 : BitVec 1 := Scalar.cmpi .ne v690 c0_i32_623
  let v695 : BitVec 1 := Scalar.andi v694 v691
  let v696 : BitVec 32 := Scalar.addi v690 v689
  let v697 : BitVec 32 := Scalar.select v695 v696 v690
  let c1_i32_641 : BitVec 32 := 1#32
  let v708 : BitVec 32 := Scalar.muli v697 c1_i32_641
  let v709 : BitVec 32 := Scalar.addi c0_i32_642 v708
  v709.toNat
def k0_off7 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v860 : Index := Scalar.indexCast v2
  let c0_784 : Index := 0#32
  let c0_785 : Index := 0#32
  ![v860.toNat, 0, 0]
def k0_off8 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_797 : BitVec 32 := 0#32
  let c0_i32_798 : BitVec 32 := 0#32
  ![v2.toNat, 0, 0]
def k0_dev10 (d0 : Dev nD) : Nat :=
  let c0_i32_796 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_786 : BitVec 32 := 1#32
  let v864 : BitVec 32 := Scalar.addi v2 c1_i32_786
  let c4_i32_787 : BitVec 32 := 4#32
  let c0_i32_788 : BitVec 32 := 0#32
  let v865 : BitVec 1 := Scalar.cmpi .eq c4_i32_787 c0_i32_788
  let c1_i32_789 : BitVec 32 := 1#32
  let v866 : BitVec 32 := Scalar.select v865 c1_i32_789 c4_i32_787
  let v867 : BitVec 32 := Scalar.remsi v864 v866
  let c0_i32_791 : BitVec 32 := 0#32
  let v869 : BitVec 1 := Scalar.cmpi .slt v867 c0_i32_791
  let c0_i32_792 : BitVec 32 := 0#32
  let v870 : BitVec 1 := Scalar.cmpi .slt v866 c0_i32_792
  let v871 : BitVec 1 := Scalar.xori v869 v870
  let c0_i32_790 : BitVec 32 := 0#32
  let v868 : BitVec 1 := Scalar.cmpi .ne v867 c0_i32_790
  let v872 : BitVec 1 := Scalar.andi v871 v868
  let v873 : BitVec 32 := Scalar.addi v867 v866
  let v874 : BitVec 32 := Scalar.select v872 v873 v867
  let c1_i32_795 : BitVec 32 := 1#32
  let v875 : BitVec 32 := Scalar.muli v874 c1_i32_795
  let v876 : BitVec 32 := Scalar.addi c0_i32_796 v875
  v876.toNat
def k0_dev11 (d0 : Dev nD) : Nat :=
  let c0_i32_811 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_801 : BitVec 32 := 2#32
  let v883 : BitVec 32 := Scalar.addi v2 c2_i32_801
  let c4_i32_802 : BitVec 32 := 4#32
  let c0_i32_803 : BitVec 32 := 0#32
  let v884 : BitVec 1 := Scalar.cmpi .eq c4_i32_802 c0_i32_803
  let c1_i32_804 : BitVec 32 := 1#32
  let v885 : BitVec 32 := Scalar.select v884 c1_i32_804 c4_i32_802
  let v886 : BitVec 32 := Scalar.remsi v883 v885
  let c0_i32_806 : BitVec 32 := 0#32
  let v888 : BitVec 1 := Scalar.cmpi .slt v886 c0_i32_806
  let c0_i32_807 : BitVec 32 := 0#32
  let v889 : BitVec 1 := Scalar.cmpi .slt v885 c0_i32_807
  let v890 : BitVec 1 := Scalar.xori v888 v889
  let c0_i32_805 : BitVec 32 := 0#32
  let v887 : BitVec 1 := Scalar.cmpi .ne v886 c0_i32_805
  let v891 : BitVec 1 := Scalar.andi v890 v887
  let v892 : BitVec 32 := Scalar.addi v886 v885
  let v893 : BitVec 32 := Scalar.select v891 v892 v886
  let c1_i32_810 : BitVec 32 := 1#32
  let v894 : BitVec 32 := Scalar.muli v893 c1_i32_810
  let v895 : BitVec 32 := Scalar.addi c0_i32_811 v894
  v895.toNat
def k0_dev12 (d0 : Dev nD) : Nat :=
  let c0_i32_826 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_816 : BitVec 32 := 3#32
  let v902 : BitVec 32 := Scalar.addi v2 c3_i32_816
  let c4_i32_817 : BitVec 32 := 4#32
  let c0_i32_818 : BitVec 32 := 0#32
  let v903 : BitVec 1 := Scalar.cmpi .eq c4_i32_817 c0_i32_818
  let c1_i32_819 : BitVec 32 := 1#32
  let v904 : BitVec 32 := Scalar.select v903 c1_i32_819 c4_i32_817
  let v905 : BitVec 32 := Scalar.remsi v902 v904
  let c0_i32_821 : BitVec 32 := 0#32
  let v907 : BitVec 1 := Scalar.cmpi .slt v905 c0_i32_821
  let c0_i32_822 : BitVec 32 := 0#32
  let v908 : BitVec 1 := Scalar.cmpi .slt v904 c0_i32_822
  let v909 : BitVec 1 := Scalar.xori v907 v908
  let c0_i32_820 : BitVec 32 := 0#32
  let v906 : BitVec 1 := Scalar.cmpi .ne v905 c0_i32_820
  let v910 : BitVec 1 := Scalar.andi v909 v906
  let v911 : BitVec 32 := Scalar.addi v905 v904
  let v912 : BitVec 32 := Scalar.select v910 v911 v905
  let c1_i32_825 : BitVec 32 := 1#32
  let v913 : BitVec 32 := Scalar.muli v912 c1_i32_825
  let v914 : BitVec 32 := Scalar.addi c0_i32_826 v913
  v914.toNat
def k0_off9 (d0 : Dev nD) (c1_i32_831 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v921 : BitVec 32 := Scalar.subi v2 c1_i32_831
  let c4_i32_832 : BitVec 32 := 4#32
  let c0_i32_833 : BitVec 32 := 0#32
  let v922 : BitVec 1 := Scalar.cmpi .eq c4_i32_832 c0_i32_833
  let c1_i32_834 : BitVec 32 := 1#32
  let v923 : BitVec 32 := Scalar.select v922 c1_i32_834 c4_i32_832
  let v924 : BitVec 32 := Scalar.remsi v921 v923
  let c0_i32_836 : BitVec 32 := 0#32
  let v926 : BitVec 1 := Scalar.cmpi .slt v924 c0_i32_836
  let c0_i32_837 : BitVec 32 := 0#32
  let v927 : BitVec 1 := Scalar.cmpi .slt v923 c0_i32_837
  let v928 : BitVec 1 := Scalar.xori v926 v927
  let c0_i32_835 : BitVec 32 := 0#32
  let v925 : BitVec 1 := Scalar.cmpi .ne v924 c0_i32_835
  let v929 : BitVec 1 := Scalar.andi v928 v925
  let v930 : BitVec 32 := Scalar.addi v924 v923
  let v931 : BitVec 32 := Scalar.select v929 v930 v924
  let c0_i32_843 : BitVec 32 := 0#32
  let c0_i32_844 : BitVec 32 := 0#32
  ![v931.toNat, 0, 0]
def k0_off10 (d0 : Dev nD) (c0_i32_917 : BitVec 32) (c0_i32_925 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1007 : BitVec 32 := Scalar.subi v2 c0_i32_917
  let c4_i32_918 : BitVec 32 := 4#32
  let c0_i32_919 : BitVec 32 := 0#32
  let v1008 : BitVec 1 := Scalar.cmpi .eq c4_i32_918 c0_i32_919
  let c1_i32_920 : BitVec 32 := 1#32
  let v1009 : BitVec 32 := Scalar.select v1008 c1_i32_920 c4_i32_918
  let v1010 : BitVec 32 := Scalar.remsi v1007 v1009
  let c0_i32_922 : BitVec 32 := 0#32
  let v1012 : BitVec 1 := Scalar.cmpi .slt v1010 c0_i32_922
  let c0_i32_923 : BitVec 32 := 0#32
  let v1013 : BitVec 1 := Scalar.cmpi .slt v1009 c0_i32_923
  let v1014 : BitVec 1 := Scalar.xori v1012 v1013
  let c0_i32_921 : BitVec 32 := 0#32
  let v1011 : BitVec 1 := Scalar.cmpi .ne v1010 c0_i32_921
  let v1015 : BitVec 1 := Scalar.andi v1014 v1011
  let v1016 : BitVec 32 := Scalar.addi v1010 v1009
  let v1017 : BitVec 32 := Scalar.select v1015 v1016 v1010
  let c1024_i32_924 : BitVec 32 := 1024#32
  let v1018 : BitVec 32 := Scalar.muli v1017 c1024_i32_924
  let v1019 : BitVec 32 := Scalar.addi v1018 c0_i32_925
  let c0_i32_953 : BitVec 32 := 0#32
  ![v1019.toNat, 0]
def k0_off11 (d0 : Dev nD) (c1_i32_974 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1079 : BitVec 32 := Scalar.subi v2 c1_i32_974
  let c4_i32_975 : BitVec 32 := 4#32
  let c0_i32_976 : BitVec 32 := 0#32
  let v1080 : BitVec 1 := Scalar.cmpi .eq c4_i32_975 c0_i32_976
  let c1_i32_977 : BitVec 32 := 1#32
  let v1081 : BitVec 32 := Scalar.select v1080 c1_i32_977 c4_i32_975
  let v1082 : BitVec 32 := Scalar.remsi v1079 v1081
  let c0_i32_979 : BitVec 32 := 0#32
  let v1084 : BitVec 1 := Scalar.cmpi .slt v1082 c0_i32_979
  let c0_i32_980 : BitVec 32 := 0#32
  let v1085 : BitVec 1 := Scalar.cmpi .slt v1081 c0_i32_980
  let v1086 : BitVec 1 := Scalar.xori v1084 v1085
  let c0_i32_978 : BitVec 32 := 0#32
  let v1083 : BitVec 1 := Scalar.cmpi .ne v1082 c0_i32_978
  let v1087 : BitVec 1 := Scalar.andi v1086 v1083
  let v1088 : BitVec 32 := Scalar.addi v1082 v1081
  let v1089 : BitVec 32 := Scalar.select v1087 v1088 v1082
  let c1024_i32_981 : BitVec 32 := 1024#32
  let v1090 : BitVec 32 := Scalar.muli v1089 c1024_i32_981
  let c0_i32_989 : BitVec 32 := 0#32
  ![v1090.toNat, 0]
def k0_off12 (d0 : Dev nD) (c0_i32_1060 : BitVec 32) (c0_i32_1068 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1186 : BitVec 32 := Scalar.subi v2 c0_i32_1060
  let c4_i32_1061 : BitVec 32 := 4#32
  let c0_i32_1062 : BitVec 32 := 0#32
  let v1187 : BitVec 1 := Scalar.cmpi .eq c4_i32_1061 c0_i32_1062
  let c1_i32_1063 : BitVec 32 := 1#32
  let v1188 : BitVec 32 := Scalar.select v1187 c1_i32_1063 c4_i32_1061
  let v1189 : BitVec 32 := Scalar.remsi v1186 v1188
  let c0_i32_1065 : BitVec 32 := 0#32
  let v1191 : BitVec 1 := Scalar.cmpi .slt v1189 c0_i32_1065
  let c0_i32_1066 : BitVec 32 := 0#32
  let v1192 : BitVec 1 := Scalar.cmpi .slt v1188 c0_i32_1066
  let v1193 : BitVec 1 := Scalar.xori v1191 v1192
  let c0_i32_1064 : BitVec 32 := 0#32
  let v1190 : BitVec 1 := Scalar.cmpi .ne v1189 c0_i32_1064
  let v1194 : BitVec 1 := Scalar.andi v1193 v1190
  let v1195 : BitVec 32 := Scalar.addi v1189 v1188
  let v1196 : BitVec 32 := Scalar.select v1194 v1195 v1189
  let c1024_i32_1067 : BitVec 32 := 1024#32
  let v1197 : BitVec 32 := Scalar.muli v1196 c1024_i32_1067
  let v1198 : BitVec 32 := Scalar.addi v1197 c0_i32_1068
  let c1024_i32_1099 : BitVec 32 := 1024#32
  ![v1198.toNat, 1024]
def k0_off13 (d0 : Dev nD) (c1_i32_1120 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1258 : BitVec 32 := Scalar.subi v2 c1_i32_1120
  let c4_i32_1121 : BitVec 32 := 4#32
  let c0_i32_1122 : BitVec 32 := 0#32
  let v1259 : BitVec 1 := Scalar.cmpi .eq c4_i32_1121 c0_i32_1122
  let c1_i32_1123 : BitVec 32 := 1#32
  let v1260 : BitVec 32 := Scalar.select v1259 c1_i32_1123 c4_i32_1121
  let v1261 : BitVec 32 := Scalar.remsi v1258 v1260
  let c0_i32_1125 : BitVec 32 := 0#32
  let v1263 : BitVec 1 := Scalar.cmpi .slt v1261 c0_i32_1125
  let c0_i32_1126 : BitVec 32 := 0#32
  let v1264 : BitVec 1 := Scalar.cmpi .slt v1260 c0_i32_1126
  let v1265 : BitVec 1 := Scalar.xori v1263 v1264
  let c0_i32_1124 : BitVec 32 := 0#32
  let v1262 : BitVec 1 := Scalar.cmpi .ne v1261 c0_i32_1124
  let v1266 : BitVec 1 := Scalar.andi v1265 v1262
  let v1267 : BitVec 32 := Scalar.addi v1261 v1260
  let v1268 : BitVec 32 := Scalar.select v1266 v1267 v1261
  let c1024_i32_1127 : BitVec 32 := 1024#32
  let v1269 : BitVec 32 := Scalar.muli v1268 c1024_i32_1127
  let c1024_i32_1135 : BitVec 32 := 1024#32
  ![v1269.toNat, 1024]
abbrev stage0_0 : Fin 1 → Memref sig .tc .vmem S1024x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1x4096x8192 : Shape := ⟨3, ![1, 4096, 8192]⟩
abbrev S1 : Shape := ⟨1, ![1]⟩
abbrev S1x1x1 : Shape := ⟨3, ![1, 1, 1]⟩

abbrev nBuf : Space → Nat
  | .hbm => 3
  | .vmem => 3
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .local _ .vmem, ⟨0, _⟩ => ⟨S4096x4096, .f32⟩
  | .local _ .vmem, ⟨1, _⟩ => ⟨S4096x8192, .f32⟩
  | .local _ .vmem, ⟨2, _⟩ => ⟨S4096x8192, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Kernel.BodyEq.lean ====
/-
  The printed body is the chain of steps of `Body`: operation by operation, the same effects in the same
  order.
-/
module

public import proofs.«01_k».proof.Proof.Kernel.Body

@[expose] public section

set_option maxRecDepth 65536

noncomputable section

namespace Cert.Kernel.Coll

open Idealize.ShloMosaic Idealize.ShloMosaic.TcCoe Idealize.SL.Sem
open Cert.Kernel Cert.Kernel.Gen

variable {F : FTy → Type} [FloatOps F]

/-- Two programs that begin with the same operation are the same where they go on alike. -/
theorem step {α : Type} {e : Type} (op : TpuEff nD τ sig (Elt F) Λ₀ .tc e) {k k' : e → TC F α} (h : ∀ x, k x = k' x) : (Prog.op op k : TC F α) = Prog.op op k' := by
  rw [funext h]

set_option maxHeartbeats 0 in
/-- The body at the one grid point is the chain of steps. -/
theorem body_eq (t : Fin cfg0.N) : bodyAt0 (F := F) t = body := by
  obtain rfl := fin_N0 t
  repeat (refine step _ (fun _ => ?_))
  rfl

end Cert.Kernel.Coll

end
-- ==== Proof.KernelIdeal.Body.lean ====
/-
  The kernel function, read as a few small pieces put in sequence.

  The printed function is one long sequence of effects. Here the same sequence is written with named
  pieces, each with the tile, the slot and the chunk as parameters, so that every later lemma is proved
  once about a piece. `body_eq` says that the printed function is this sequence.
-/
module

public import proofs.«01_k».proof.Proof.Gen.KernelIdeal.Skeleton
public import proofs.«01_k».proof.Proof.Gen.KernelIdeal.Frame

@[expose] public section

set_option maxRecDepth 65536

noncomputable section

namespace Cert.KernelIdeal.Coll

open Idealize.ShloMosaic Idealize.ShloMosaic.TcCoe Idealize.SL.Sem
open Cert.KernelIdeal Cert.KernelIdeal.Gen

variable {F : FTy → Type} [FloatOps F]

/-- Programs of the TensorCore. -/
abbrev TC (F : FTy → Type) [FloatOps F] (α : Type) : Type 1 := Prog (TpuEff nD τ sig (Elt F) Λ₀ .tc) α

/-! ## Bounds -/

/-- A quarter of a w slot lies inside the w buffers. -/
theorem wb_inb (s : Fin 2) (j : Fin 4) : ∀ a, (![s.val, 1024 * j.val, 0] : Fin 3 → Nat) a + S1x1024x1024.size a ≤ S2x4096x1024.size a := by
  revert s j; decide
/-- A w slot lies inside the w buffers. -/
theorem wslot_inb (s : Fin 2) : ∀ a, (![s.val, 0, 0] : Fin 3 → Nat) a + S1x4096x1024.size a ≤ S2x4096x1024.size a := by
  revert s; decide
/-- The upper quarter of a w slot lies inside the w buffers. -/
theorem wtop_inb (s : Fin 2) : ∀ a, (![s.val, 0, 0] : Fin 3 → Nat) a + S1x1024x1024.size a ≤ S2x4096x1024.size a := by
  revert s; decide
/-- A quarter of a finished tile lies inside the w buffers. -/
theorem wo_inb (s : Fin 2) (j : Fin 4) : ∀ a, (![s.val, 256 * j.val, 0] : Fin 3 → Nat) a + S1x256x1024.size a ≤ S2x4096x1024.size a := by
  revert s j; decide
/-- A comm slot lies inside the comm buffers. -/
theorem cslot_inb (q : Fin 4) : ∀ a, (![q.val, 0, 0] : Fin 3 → Nat) a + S1x1024x1024.size a ≤ S4x1024x1024.size a := by
  revert q; decide
/-- A quarter of a loading slot lies inside the comm buffers. -/
theorem ci_inb (s : Fin 2) (j : Fin 4) : ∀ a, (![2 + s.val, 256 * j.val, 0] : Fin 3 → Nat) a + S1x256x1024.size a ≤ S4x1024x1024.size a := by
  revert s j; decide
/-- The index of one of eight local semaphores is in range. -/
theorem s24_inb (s : Fin 2) (j : Fin 4) : ∀ a, (![s.val, j.val] : Fin 2 → Nat) a + S1x1.size a ≤ S2x4.size a := by
  revert s j; decide
/-- The index of an arrival semaphore is in range. -/
theorem s32_inb (w : Fin 3) (h : Fin 2) : ∀ a, (![w.val, h.val] : Fin 2 → Nat) a + S1x1.size a ≤ S3x2.size a := by
  revert w h; decide
/-- The index of a send semaphore is in range. -/
theorem s6_inb (t : Fin 6) : ∀ a, (![t.val] : Fin 1 → Nat) a + S1.size a ≤ S6.size a := by
  revert t; decide
/-- The index of a semaphore of the maxima is in range. -/
theorem s3_inb (i : Fin 3) : ∀ a, (![i.val] : Fin 1 → Nat) a + S1.size a ≤ S3.size a := by
  revert i; decide

/-- Every comm slot is made of whole words. -/
theorem cslot_words (q : Fin 4) : (Rect.unit (s := S4x1024x1024) ![q.val, 0, 0] S1x1024x1024.size (cslot_inb q)).WholeWords (EltTy.packing .bf16) :=
  match q with
  | 0 => wordsbf16_S4x1024x1024_S1x1024x1024_0_0_0
  | 1 => wordsbf16_S4x1024x1024_S1x1024x1024_1_0_0
  | 2 => wordsbf16_S4x1024x1024_S1x1024x1024_2_0_0
  | 3 => wordsbf16_S4x1024x1024_S1x1024x1024_3_0_0
/-- Every comm slot is made of packed rows. -/
theorem cslot_packed (q : Fin 4) : (Rect.unit (s := S4x1024x1024) ![q.val, 0, 0] S1x1024x1024.size (cslot_inb q)).PackedRows (EltTy.packing .bf16) :=
  match q with
  | 0 => packedbf16_S4x1024x1024_S1x1024x1024_0_0_0
  | 1 => packedbf16_S4x1024x1024_S1x1024x1024_1_0_0
  | 2 => packedbf16_S4x1024x1024_S1x1024x1024_2_0_0
  | 3 => packedbf16_S4x1024x1024_S1x1024x1024_3_0_0
/-- Every quarter of comm slots 2 and 3 is made of whole words. -/
theorem ci_words (s : Fin 2) (j : Fin 4) : (Rect.unit (s := S4x1024x1024) ![2 + s.val, 256 * j.val, 0] S1x256x1024.size (ci_inb s j)).WholeWords (EltTy.packing .bf16) :=
  match s, j with
  | 0, 0 => wordsbf16_S4x1024x1024_S1x256x1024_2_0_0
  | 0, 1 => wordsbf16_S4x1024x1024_S1x256x1024_2_256_0
  | 0, 2 => wordsbf16_S4x1024x1024_S1x256x1024_2_512_0
  | 0, 3 => wordsbf16_S4x1024x1024_S1x256x1024_2_768_0
  | 1, 0 => wordsbf16_S4x1024x1024_S1x256x1024_3_0_0
  | 1, 1 => wordsbf16_S4x1024x1024_S1x256x1024_3_256_0
  | 1, 2 => wordsbf16_S4x1024x1024_S1x256x1024_3_512_0
  | 1, 3 => wordsbf16_S4x1024x1024_S1x256x1024_3_768_0

/-! ## The memrefs and the semaphores -/

/-- The array the x block is staged in. -/
abbrev mX : Memref sig .tc .vmem S1024x4096 .f32 := win0_0.stage (cfg0.slots t0_0 0)
/-- The part of w at the offsets `o`. -/
abbrev mA (o : Fin 2 → Nat) (h : ∀ a, o a + S1024x1024.size a ≤ S4096x8192.size a) : Memref sig .tc .hbm S1024x1024 .f32 :=
  (Memref.whole main_arg1 : Memref sig .tc .hbm S4096x8192 .f32).slice (Rect.unit (s := S4096x8192) o S1024x1024.size h) (fun _ => rfl)
/-- Row chunk `j` of w slot `s`. -/
abbrev mW (s : Fin 2) (j : Fin 4) : Memref sig .tc .vmem S1024x1024 .f32 :=
  ((Memref.whole cc0_scratch0 : Memref sig .tc .vmem S2x4096x1024 .f32).slice (Rect.unit (s := S2x4096x1024) ![s.val, 1024 * j.val, 0] S1x1024x1024.size (wb_inb s j)) (fun _ => rfl)).squeeze S1024x1024 squeezes_S1x1024x1024_S1024x1024
/-- Row chunk `j` of the finished tile in w slot `s`. -/
abbrev mO (s : Fin 2) (j : Fin 4) : Memref sig .tc .vmem S256x1024 .f32 :=
  ((Memref.whole cc0_scratch0 : Memref sig .tc .vmem S2x4096x1024 .f32).slice (Rect.unit (s := S2x4096x1024) ![s.val, 256 * j.val, 0] S1x256x1024.size (wo_inb s j)) (fun _ => rfl)).squeeze S256x1024 squeezes_S1x256x1024_S256x1024
/-- Comm slot `q`. -/
abbrev mC (q : Fin 4) : Memref sig .tc .vmem S1024x1024 .bf16 :=
  ((Memref.whole cc0_scratch1 : Memref sig .tc .vmem S4x1024x1024 .bf16).slice (Rect.unit (s := S4x1024x1024) ![q.val, 0, 0] S1x1024x1024.size (cslot_inb q)) (fun _ => rfl)).squeeze S1024x1024 squeezes_S1x1024x1024_S1024x1024
/-- Row chunk `j` of comm slot `2 + s`. -/
abbrev mCi (s : Fin 2) (j : Fin 4) : Memref sig .tc .vmem S256x1024 .bf16 :=
  ((Memref.whole cc0_scratch1 : Memref sig .tc .vmem S4x1024x1024 .bf16).slice (Rect.unit (s := S4x1024x1024) ![2 + s.val, 256 * j.val, 0] S1x256x1024.size (ci_inb s j)) (fun _ => rfl)).squeeze S256x1024 squeezes_S1x256x1024_S256x1024
/-- The tile of the stage array at the offsets `o`. -/
abbrev mS (o : Fin 2 → Nat) (h : ∀ a, o a + S1024x1024.size a ≤ S4096x2048.size a) : Memref sig .tc .hbm S1024x1024 .bf16 :=
  (Memref.whole main_v1_1 : Memref sig .tc .hbm S4096x2048 .bf16).slice (Rect.unit (s := S4096x2048) o S1024x1024.size h) (fun _ => rfl)
/-- The row chunk of the stage array at the offsets `o`. -/
abbrev mSi (o : Fin 2 → Nat) (h : ∀ a, o a + S256x1024.size a ≤ S4096x2048.size a) : Memref sig .tc .hbm S256x1024 .bf16 :=
  (Memref.whole main_v1_1 : Memref sig .tc .hbm S4096x2048 .bf16).slice (Rect.unit (s := S4096x2048) o S256x1024.size h) (fun _ => rfl)
/-- The row chunk of the result at the offsets `o`. -/
abbrev mR (o : Fin 2 → Nat) (h : ∀ a, o a + S256x1024.size a ≤ S4096x2048.size a) : Memref sig .tc .hbm S256x1024 .f32 :=
  (Memref.whole main_v1_0 : Memref sig .tc .hbm S4096x2048 .f32).slice (Rect.unit (s := S4096x2048) o S256x1024.size h) (fun _ => rfl)
/-- The slot of the maxima at the offsets `o`. -/
abbrev mM (o : Fin 3 → Nat) (h : ∀ a, o a + S1x8x128.size a ≤ S4x8x128.size a) : Memref sig .tc .vmem S1x8x128 .f32 :=
  (Memref.whole cc0_scratch2 : Memref sig .tc .vmem S4x8x128 .f32).slice (Rect.unit (s := S4x8x128) o S1x8x128.size h) (fun _ => rfl)

/-- The semaphore of row chunk `j` of w slot `s`. -/
abbrev semW (s : Fin 2) (j : Fin 4) : DmaSem sig := (((cc0_scratch3 : DmaSems sig S2x4).slice (Rect.unit (s := S2x4) ![s.val, j.val] S1x1.size (s24_inb s j))).squeeze S_ squeezes_S1x1_S_).sem
/-- The semaphore send `t` completes on. -/
abbrev semS (t : Fin 6) : DmaSem sig := (((cc0_scratch4 : DmaSems sig S6).slice (Rect.unit (s := S6) ![t.val] S1.size (s6_inb t))).squeeze S_ squeezes_S1_S_).sem
/-- The semaphore the tile of distance `w + 1` and half `h` arrives on. -/
abbrev semR (w : Fin 3) (h : Fin 2) : DmaSem sig := (((cc0_scratch5 : DmaSems sig S3x2).slice (Rect.unit (s := S3x2) ![w.val, h.val] S1x1.size (s32_inb w h))).squeeze S_ squeezes_S1x1_S_).sem
/-- The semaphore the send of the maximum to distance `i + 1` completes on. -/
abbrev semXs (i : Fin 3) : DmaSem sig := (((cc0_scratch6 : DmaSems sig S3).slice (Rect.unit (s := S3) ![i.val] S1.size (s3_inb i))).squeeze S_ squeezes_S1_S_).sem
/-- The semaphore the maximum of distance `i + 1` arrives on. -/
abbrev semXr (i : Fin 3) : DmaSem sig := (((cc0_scratch7 : DmaSems sig S3).slice (Rect.unit (s := S3) ![i.val] S1.size (s3_inb i))).squeeze S_ squeezes_S1_S_).sem
/-- The semaphore of row chunk `j` coming into comm slot `2 + s`. -/
abbrev semI (s : Fin 2) (j : Fin 4) : DmaSem sig := (((cc0_scratch9 : DmaSems sig S2x4).slice (Rect.unit (s := S2x4) ![s.val, j.val] S1x1.size (s24_inb s j))).squeeze S_ squeezes_S1x1_S_).sem
/-- The semaphore of row chunk `j` going out of w slot `s`. -/
abbrev semO (s : Fin 2) (j : Fin 4) : DmaSem sig := (((cc0_scratch10 : DmaSems sig S2x4).slice (Rect.unit (s := S2x4) ![s.val, j.val] S1x1.size (s24_inb s j))).squeeze S_ squeezes_S1x1_S_).sem
/-- The barrier's semaphore. -/
abbrev semB : Sem sig := (SemArray.scalar (sig.barrier 0 rfl) : Sems sig S_).sem

/-! ## The evidence the transfers carry -/

/-- A comm slot is made of whole words. -/
theorem mC_words (q : Fin 4) : (mC q).view.WordExact := ((Memref.isWhole_whole _).wordExact_slice rfl _ (cslot_words q)).reshape _ _
/-- A quarter of a loading slot is made of whole words. -/
theorem mCi_words (s : Fin 2) (j : Fin 4) : (mCi s j).view.WordExact := ((Memref.isWhole_whole _).wordExact_slice rfl _ (ci_words s j)).reshape _ _

/-! ## Where the printed offsets lie, by half -/

/-- The offsets of the stage and result row chunk of half `h`, distance `w`, row `r`. -/
def offA (d : Dev nD) (h : Fin 2) (w r : BitVec 32) : Fin 2 → Nat := match h with
  | 0 => k0_off10 d w r
  | 1 => k0_off12 d w r
/-- A quarter of a tile lies inside the stage array. -/
theorem offA_inb (d : Dev nD) (h : Fin 2) (w r : Fin 4) : ∀ a, offA d h (BitVec.ofNat 32 w.val) (BitVec.ofNat 32 (256 * r.val)) a + S256x1024.size a ≤ S4096x2048.size a :=
  match h with
  | 0 => k0_off10_inb d w r
  | 1 => k0_off12_inb d w r
/-- A quarter of a tile is made of whole words. -/
theorem offA_words (d : Dev nD) (h : Fin 2) (w r : Fin 4) : (mSi (offA d h (BitVec.ofNat 32 w.val) (BitVec.ofNat 32 (256 * r.val))) (offA_inb d h w r)).view.WordExact :=
  match h with
  | 0 => (Memref.isWhole_whole _).wordExact_slice rfl _ (k0_off10_wordsbf16 d w r)
  | 1 => (Memref.isWhole_whole _).wordExact_slice rfl _ (k0_off12_wordsbf16 d w r)
/-- The offsets of the whole stage tile of half `h` and distance `w + 1`. -/
def offR (d : Dev nD) (h : Fin 2) (w : BitVec 32) : Fin 2 → Nat := match h with
  | 0 => k0_off11 d w
  | 1 => k0_off13 d w
/-- An arriving tile lies inside the stage array. -/
theorem offR_inb (d : Dev nD) (h : Fin 2) (w : Fin 3) : ∀ a, offR d h (BitVec.ofNat 32 (1 + w.val)) a + S1024x1024.size a ≤ S4096x2048.size a :=
  match h with
  | 0 => k0_off11_inb d w
  | 1 => k0_off13_inb d w
/-- An arriving tile is made of whole words. -/
theorem offR_words (d : Dev nD) (h : Fin 2) (w : Fin 3) : (mS (offR d h (BitVec.ofNat 32 (1 + w.val))) (offR_inb d h w)).view.WordExact :=
  match h with
  | 0 => (Memref.isWhole_whole _).wordExact_slice rfl _ (k0_off11_wordsbf16 d w)
  | 1 => (Memref.isWhole_whole _).wordExact_slice rfl _ (k0_off13_wordsbf16 d w)
/-- The offsets, on the receiver, of the tile of half `h` sent by `d`. -/
def offS (d : Dev nD) (h : Fin 2) : Fin 2 → Nat := match h with
  | 0 => k0_off5 d
  | 1 => k0_off6 d
/-- A sent tile lies inside the stage array. -/
theorem offS_inb (d : Dev nD) (h : Fin 2) : ∀ a, offS d h a + S1024x1024.size a ≤ S4096x2048.size a :=
  match h with
  | 0 => k0_off5_inb d
  | 1 => k0_off6_inb d
/-- A sent tile is made of whole words. -/
theorem offS_words (d : Dev nD) (h : Fin 2) : (mS (offS d h) (offS_inb d h)).view.WordExact :=
  match h with
  | 0 => (Memref.isWhole_whole _).wordExact_slice rfl _ (k0_off5_wordsbf16 d)
  | 1 => (Memref.isWhole_whole _).wordExact_slice rfl _ (k0_off6_wordsbf16 d)
/-- The offsets in w of row chunk `j` of the tile of distance `a + 1` and half `h`. -/
def offW (d : Dev nD) (a h : BitVec 32) (j : Fin 4) : Fin 2 → Nat := match j with
  | 0 => k0_off1 d a h
  | 1 => k0_off2 d a h
  | 2 => k0_off3 d a h
  | 3 => k0_off4 d a h
/-- A quarter of a w tile lies inside w. -/
theorem offW_inb (d : Dev nD) (a : Fin 4) (h : Fin 2) (j : Fin 4) : ∀ x, offW d (BitVec.ofNat 32 a.val) (BitVec.ofNat 32 (1024 * h.val)) j x + S1024x1024.size x ≤ S4096x8192.size x :=
  match j with
  | 0 => k0_off1_inb d a h
  | 1 => k0_off2_inb d a h
  | 2 => k0_off3_inb d a h
  | 3 => k0_off4_inb d a h
/-- The device send `t` goes to. -/
def sendDev (d : Dev nD) (t : Fin 6) : Dev nD := match t with
  | 0 => ⟨k0_dev4 d, k0_dev4_lt d⟩
  | 1 => ⟨k0_dev5 d, k0_dev5_lt d⟩
  | 2 => ⟨k0_dev6 d, k0_dev6_lt d⟩
  | 3 => ⟨k0_dev7 d, k0_dev7_lt d⟩
  | 4 => ⟨k0_dev8 d, k0_dev8_lt d⟩
  | 5 => ⟨k0_dev9 d, k0_dev9_lt d⟩
/-- The device the barrier's signal `i` goes to. -/
def sigDev (d : Dev nD) (i : Fin 3) : Dev nD := match i with
  | 0 => ⟨k0_dev1 d, k0_dev1_lt d⟩
  | 1 => ⟨k0_dev2 d, k0_dev2_lt d⟩
  | 2 => ⟨k0_dev3 d, k0_dev3_lt d⟩
/-- The device the maximum goes to, at distance `i + 1`. -/
def maxDev (d : Dev nD) (i : Fin 3) : Dev nD := match i with
  | 0 => ⟨k0_dev10 d, k0_dev10_lt d⟩
  | 1 => ⟨k0_dev11 d, k0_dev11_lt d⟩
  | 2 => ⟨k0_dev12 d, k0_dev12_lt d⟩

/-! ## The pieces -/

/-- Start the copy of one row chunk of a tile of w. -/
def wOne (d : Dev nD) (a : Fin 4) (h : Fin 2) (j : Fin 4) : TC F PUnit :=
  Prog.lift (.enqueueDma (mA (offW d (BitVec.ofNat 32 a.val) (BitVec.ofNat 32 (1024 * h.val)) j) (offW_inb d a h j)) (.here (mW h j)) (.dma (semW h j)) (View.wordExact_bits rfl) ((View.wordExact_bits rfl).reshape _ _) ⟨Or.inl rfl, trivial⟩)
/-- Wait for it. -/
def wGot (d : Dev nD) (a : Fin 4) (h : Fin 2) (j : Fin 4) : TC F PUnit :=
  Prog.lift (.waitDma2 (semW h j) (mA (offW d (BitVec.ofNat 32 a.val) (BitVec.ofNat 32 (1024 * h.val)) j) (offW_inb d a h j)) (mW h j) (View.wordExact_bits rfl) ((View.wordExact_bits rfl).reshape _ _))
/-- Start the copies of a tile of w into its slot. -/
def wStart (d : Dev nD) (a : Fin 4) (h : Fin 2) : TC F PUnit := do
  wOne d a h 0; wOne d a h 1; wOne d a h 2; wOne d a h 3
/-- Wait for them. -/
def wWait (d : Dev nD) (a : Fin 4) (h : Fin 2) : TC F PUnit := do
  wGot d a h 0; wGot d a h 1; wGot d a h 2; wGot d a h 3
/-- Read x. -/
def ldX : TC F (Vec F S1024x4096 .f32) :=
  Prog.lift (.load mX (Rect.unit (s := S1024x4096) ![0, 0] S1024x4096.size inb_S1024x4096_S1024x4096_0_0).toLoadRect (View.loadsAt_vmem h_S1024x4096))
/-- Read w slot `s`. -/
def ldW (s : Fin 2) : TC F (Vec F S1x4096x1024 .f32) :=
  Prog.lift (.load (Memref.whole cc0_scratch0 : Memref sig .tc .vmem S2x4096x1024 .f32) (Rect.unit (s := S2x4096x1024) ![s.val, 0, 0] S1x4096x1024.size (wslot_inb s)).toLoadRect (View.loadsAt_vmem h_S1x4096x1024))
/-- Read comm slot `q`. -/
def ldC (q : Fin 4) : TC F (Vec F S1x1024x1024 .bf16) :=
  Prog.lift (.load (Memref.whole cc0_scratch1 : Memref sig .tc .vmem S4x1024x1024 .bf16) (Rect.unit (s := S4x1024x1024) ![q.val, 0, 0] S1x1024x1024.size (cslot_inb q)).toLoadRect (View.loadsAt_vmem h_S1x1024x1024))
/-- Write comm slot `q`, its old value read first. -/
def stC (q : Fin 4) (v : FVec F S1x1024x1024 .bf16) : TC F PUnit := do
  let _ ← ldC q
  Prog.lift (.store (Memref.whole cc0_scratch1 : Memref sig .tc .vmem S4x1024x1024 .bf16) (Rect.unit (s := S4x1024x1024) ![q.val, 0, 0] S1x1024x1024.size (cslot_inb q)) v Finset.univ (View.stores_vmem h_S1x1024x1024 ((Memref.isWhole_whole _).storeExact_slice rfl _ (cslot_packed q)) (fun _ => rfl)) (.inl rfl))
/-- Send comm slot `q` as tile `t = 2 w + h`. -/
def send (d : Dev nD) (w : Fin 3) (h : Fin 2) (t : Fin 6) (q : Fin 4) : TC F PUnit :=
  Prog.lift (.enqueueDma (mC q) (.remote (Dev.tc (sendDev d t)) (mS (offS d h) (offS_inb d h)) (.dma (semS t))) (.dma (semR w h)) (mC_words q) (offS_words d h) ⟨⟨rfl, Or.inl rfl⟩, trivial⟩)
/-- Wait until send `t` has read its slot `q`. -/
def sent (d : Dev nD) (h : Fin 2) (t : Fin 6) (q : Fin 4) : TC F PUnit :=
  Prog.lift (.waitDma2 (semS t) (mS (offS d h) (offS_inb d h)) (mC q) (offS_words d h) (mC_words q))
/-- One tile's product, put in comm slot `q`; the running maximum comes back. -/
def mm (q : Fin 4) (h : Fin 2) (acc : F .f32) (before : TC F PUnit) : TC F (F .f32) := do
  let x ← ldX
  let w ← ldW h
  before
  stC q (k0_pay3 x w)
  pure (k0_pay5 acc x w)
/-- The barrier: one signal to each other device, then a wait for theirs. -/
def barrier (d : Dev nD) : TC F PUnit := do
  semSignalWord (sigDev d 0) semB 1#32
  semSignalWord (sigDev d 1) semB 1#32
  semSignalWord (sigDev d 2) semB 1#32
  semWaitWord semB 3#32
/-- Put the device's own maximum in its slot. -/
def maxPut (d : Dev nD) (v : F .f32) : TC F PUnit := do
  let _ ← (Prog.lift (.load (Memref.whole cc0_scratch2 : Memref sig .tc .vmem S4x8x128 .f32) (Rect.unit (s := S4x8x128) (k0_off7 d) S1x8x128.size (k0_off7_inb d)).toLoadRect (View.loadsAt_vmem h_S1x8x128)) : TC F (Vec F S1x8x128 .f32))
  Prog.lift (.store (Memref.whole cc0_scratch2 : Memref sig .tc .vmem S4x8x128 .f32) (Rect.unit (s := S4x8x128) (k0_off7 d) S1x8x128.size (k0_off7_inb d)) (k0_pay28 v) Finset.univ (View.stores_vmem_bits_univ h_S1x8x128 rfl) (.inl rfl))
/-- Send it to distance `i + 1`. -/
def maxSend (d : Dev nD) (i : Fin 3) : TC F PUnit :=
  Prog.lift (.enqueueDma (mM (k0_off8 d) (k0_off8_inb d)) (.remote (Dev.tc (maxDev d i)) (mM (k0_off8 d) (k0_off8_inb d)) (.dma (semXs i))) (.dma (semXr i)) (View.wordExact_bits rfl) (View.wordExact_bits rfl) ⟨⟨rfl, Or.inl rfl⟩, trivial⟩)
/-- Wait for the maximum of distance `i + 1`. -/
def maxGot (d : Dev nD) (i : Fin 3) : TC F PUnit :=
  Prog.lift (.waitDma2 (semXr i) (mM ![0, 0, 0] inb_S4x8x128_S1x8x128_0_0_0) (mM (k0_off9 d (BitVec.ofNat 32 (1 + i.val))) (k0_off9_inb d i)) (View.wordExact_bits rfl) (View.wordExact_bits rfl))
/-- Wait until the send to distance `i + 1` has read the slot. -/
def maxSent (d : Dev nD) (i : Fin 3) : TC F PUnit :=
  Prog.lift (.waitDma2 (semXs i) (mM (k0_off8 d) (k0_off8_inb d)) (mM (k0_off8 d) (k0_off8_inb d)) (View.wordExact_bits rfl) (View.wordExact_bits rfl))
/-- Read all four maxima. -/
def ldM : TC F (Vec F S4x8x128 .f32) :=
  Prog.lift (.load (Memref.whole cc0_scratch2 : Memref sig .tc .vmem S4x8x128 .f32) (Rect.unit (s := S4x8x128) ![0, 0, 0] S4x8x128.size inb_S4x8x128_S4x8x128_0_0_0).toLoadRect (View.loadsAt_vmem h_S4x8x128))
/-- The exchange of the maxima. -/
def maxima (d : Dev nD) (v : F .f32) : TC F (Vec F S4x8x128 .f32) := do
  maxPut d v
  maxSend d 0; maxSend d 1; maxSend d 2
  maxGot d 0; maxGot d 1; maxGot d 2
  maxSent d 0; maxSent d 1; maxSent d 2
  ldM
/-- Write the upper rows of w slot `s`, their old values read first. -/
def stW (s : Fin 2) (v : FVec F S1x1024x1024 .f32) : TC F PUnit := do
  let _ ← (Prog.lift (.load (Memref.whole cc0_scratch0 : Memref sig .tc .vmem S2x4096x1024 .f32) (Rect.unit (s := S2x4096x1024) ![s.val, 0, 0] S1x1024x1024.size (wtop_inb s)).toLoadRect (View.loadsAt_vmem h_S1x1024x1024)) : TC F (Vec F S1x1024x1024 .f32))
  Prog.lift (.store (Memref.whole cc0_scratch0 : Memref sig .tc .vmem S2x4096x1024 .f32) (Rect.unit (s := S2x4096x1024) ![s.val, 0, 0] S1x1024x1024.size (wtop_inb s)) v Finset.univ (View.stores_vmem_bits_univ h_S1x1024x1024 rfl) (.inl rfl))
/-- Requantise comm slot `q` into w slot `s`. -/
def quant (s : Fin 2) (q : Fin 4) (sc inv : F .f32) : TC F PUnit := do
  let y ← ldC q
  stW s (k0_pay33 sc inv y)
/-- Start one row chunk of a finished tile on its way to the result. -/
def oOne (d : Dev nD) (w : Fin 4) (h : Fin 2) (j : Fin 4) : TC F PUnit :=
  Prog.lift (.enqueueDma (mO h j) (.here (mR (offA d h (BitVec.ofNat 32 w.val) (BitVec.ofNat 32 (256 * j.val))) (offA_inb d h w j))) (.dma (semO h j)) ((View.wordExact_bits rfl).reshape _ _) (View.wordExact_bits rfl) ⟨Or.inl rfl, trivial⟩)
/-- Wait for it. -/
def oGot (d : Dev nD) (w : Fin 4) (h : Fin 2) (j : Fin 4) : TC F PUnit :=
  Prog.lift (.waitDma2 (semO h j) (mO h j) (mR (offA d h (BitVec.ofNat 32 w.val) (BitVec.ofNat 32 (256 * j.val))) (offA_inb d h w j)) ((View.wordExact_bits rfl).reshape _ _) (View.wordExact_bits rfl))
/-- Start one row chunk of an arrived tile on its way into its comm slot. -/
def iOne (d : Dev nD) (w : Fin 4) (h : Fin 2) (j : Fin 4) : TC F PUnit :=
  Prog.lift (.enqueueDma (mSi (offA d h (BitVec.ofNat 32 w.val) (BitVec.ofNat 32 (256 * j.val))) (offA_inb d h w j)) (.here (mCi h j)) (.dma (semI h j)) (offA_words d h w j) (mCi_words h j) ⟨Or.inl rfl, trivial⟩)
/-- Wait for it. -/
def iGot (d : Dev nD) (w : Fin 4) (h : Fin 2) (j : Fin 4) : TC F PUnit :=
  Prog.lift (.waitDma2 (semI h j) (mSi (offA d h (BitVec.ofNat 32 w.val) (BitVec.ofNat 32 (256 * j.val))) (offA_inb d h w j)) (mCi h j) (offA_words d h w j) (mCi_words h j))
/-- Start writing the four quarters of a finished tile. -/
def oStart (d : Dev nD) (w : Fin 4) (h : Fin 2) : TC F PUnit := do oOne d w h 0; oOne d w h 1; oOne d w h 2; oOne d w h 3
/-- Wait for the four quarters of a finished tile to be written. -/
def oWait (d : Dev nD) (w : Fin 4) (h : Fin 2) : TC F PUnit := do oGot d w h 0; oGot d w h 1; oGot d w h 2; oGot d w h 3
/-- Start loading the four quarters of an arrived tile. -/
def iStart (d : Dev nD) (w : Fin 4) (h : Fin 2) : TC F PUnit := do iOne d w h 0; iOne d w h 1; iOne d w h 2; iOne d w h 3
/-- Wait for the four quarters of an arrived tile to be loaded. -/
def iWait (d : Dev nD) (w : Fin 4) (h : Fin 2) : TC F PUnit := do iGot d w h 0; iGot d w h 1; iGot d w h 2; iGot d w h 3
/-- Wait for the tile of distance `w + 1` and half `h`. -/
def recvd (d : Dev nD) (w : Fin 3) (h : Fin 2) : TC F PUnit :=
  Prog.lift (.waitDma2 (semR w h) (mC 0) (mS (offR d h (BitVec.ofNat 32 (1 + w.val))) (offR_inb d h w)) (mC_words 0) (offR_words d h w))

/-- The products: eight tiles, six of them sent. -/
def products (d : Dev nD) : TC F (F .f32) := do
  wWait d 0 0; let a0 ← mm 0 0 (Scalar.ofBits .f32 0x00000000#32) (pure ⟨⟩); send d 0 0 0 0; wStart d 1 0
  wWait d 0 1; let a1 ← mm 1 1 a0 (pure ⟨⟩); send d 0 1 1 1; wStart d 1 1
  wWait d 1 0; let a2 ← mm 2 0 a1 (pure ⟨⟩); send d 1 0 2 2; wStart d 2 0
  wWait d 1 1; let a3 ← mm 3 1 a2 (pure ⟨⟩); send d 1 1 3 3; wStart d 2 1
  wWait d 2 0; let a4 ← mm 0 0 a3 (sent d 0 0 0); send d 2 0 4 0; wStart d 3 0
  wWait d 2 1; let a5 ← mm 1 1 a4 (sent d 1 1 1); send d 2 1 5 1; wStart d 3 1
  wWait d 3 0; let a6 ← mm 2 0 a5 (sent d 0 2 2)
  wWait d 3 1; mm 3 1 a6 (sent d 1 3 3)

/-- The last stage: eight tiles requantised and written out. -/
def finish (d : Dev nD) (sc inv : F .f32) : TC F PUnit := do
  quant 0 2 sc inv; oStart d 0 0; recvd d 0 0; iStart d 1 0
  quant 1 3 sc inv; oStart d 0 1; recvd d 0 1; iStart d 1 1
  iWait d 1 0; oWait d 0 0; quant 0 2 sc inv; oStart d 1 0; recvd d 1 0; iStart d 2 0
  iWait d 1 1; oWait d 0 1; quant 1 3 sc inv; oStart d 1 1; recvd d 1 1; iStart d 2 1
  iWait d 2 0; oWait d 1 0; quant 0 2 sc inv; oStart d 2 0; recvd d 2 0; iStart d 3 0
  iWait d 2 1; oWait d 1 1; quant 1 3 sc inv; oStart d 2 1; recvd d 2 1; iStart d 3 1
  iWait d 3 0; oWait d 2 0; quant 0 2 sc inv; oStart d 3 0
  iWait d 3 1; oWait d 2 1; quant 1 3 sc inv; oStart d 3 1
  oWait d 3 0; oWait d 3 1
  sent d 0 4 0; sent d 1 5 1

/-- The kernel function as the sequence of its pieces. -/
def body : TC F PUnit := do
  let d ← (Prog.lift .deviceId : TC F (Dev nD))
  barrier d
  wStart d 0 0; wStart d 0 1
  let a ← products d
  let v ← maxima d a
  finish d (k0_pay30 v) (k0_pay31 v)

end Cert.KernelIdeal.Coll

end
-- ==== Proof.KernelIdeal.Geometry.lean ====
/-
  Where the pieces of the kernel sit in their arrays, and what a copy or a read of one gives.

  Every piece is a box: an offset and an extent on each axis. The lemmas say that a view's elements are
  its box, and that an element written by a copy, or read by a load, is the element of the source at
  the same place of the piece.
-/
module

public import proofs.«01_k».proof.Proof.KernelIdeal.Body
public import Idealize.ShloMosaic.Lib.ValueLayout

@[expose] public section

set_option maxRecDepth 65536

noncomputable section

namespace Cert.KernelIdeal.Coll

open Idealize.ShloMosaic Idealize.ShloMosaic.TcCoe Idealize.SL.Sem
open Idealize.ShloMosaic.ValueIdx
open Cert.KernelIdeal Cert.KernelIdeal.Gen

variable {F : FTy → Type} [FloatOps F]

/-- The indices from `o` on, `n` of them along each axis. -/
def box {s : Shape} (o n : Fin s.rank → Nat) : Finset s.Idx :=
  Finset.univ.filter fun i => ∀ a, o a ≤ (i a : Nat) ∧ (i a : Nat) < o a + n a

/-- An index is in a box when each coordinate is in its range. -/
theorem mem_box {s : Shape} {o n : Fin s.rank → Nat} {i : s.Idx} :
    i ∈ box o n ↔ ∀ a, o a ≤ (i a : Nat) ∧ (i a : Nat) < o a + n a := by simp [box]

/-- The same of two coordinates. -/
theorem mem_box2 {a b o0 o1 n0 n1 : Nat} {i : (⟨2, ![a, b]⟩ : Shape).Idx} :
    i ∈ box (s := ⟨2, ![a, b]⟩) ![o0, o1] ![n0, n1] ↔ (o0 ≤ (i 0).val ∧ (i 0).val < o0 + n0) ∧ (o1 ≤ (i 1).val ∧ (i 1).val < o1 + n1) :=
  mem_box.trans Fin.forall_fin_two

/-- The same of three coordinates. -/
theorem mem_box3 {a b c o0 o1 o2 n0 n1 n2 : Nat} {i : (⟨3, ![a, b, c]⟩ : Shape).Idx} :
    i ∈ box (s := ⟨3, ![a, b, c]⟩) ![o0, o1, o2] ![n0, n1, n2] ↔
      (o0 ≤ (i 0).val ∧ (i 0).val < o0 + n0) ∧ (o1 ≤ (i 1).val ∧ (i 1).val < o1 + n1) ∧ (o2 ≤ (i 2).val ∧ (i 2).val < o2 + n2) :=
  mem_box.trans ⟨fun h => ⟨h 0, h 1, h 2⟩, fun h => Fin.forall_fin_succ.mpr ⟨h.1, Fin.forall_fin_two.mpr ⟨h.2.1, h.2.2⟩⟩⟩

/-- A rectangle of a whole array is its box. -/
theorem set_box {κ : Kind} (b : Ref sig κ) (o n : Fin b.ty.shape.rank → Nat) (h : ∀ a, o a + n a ≤ b.ty.shape.size a) :
    ((View.whole b).slice (Rect.unit (s := b.ty.shape) o n h)).set = box o n := by
  rw [View.set_slice_whole]
  ext i
  rw [Rect.mem_set_unit, mem_box]

/-! ## The pieces as boxes -/

/-- The indices a copy reads in w. -/
theorem set_mA (o : Fin 2 → Nat) (h) : (mA o h).view.set = box (s := S4096x8192) o S1024x1024.size := set_box main_arg1 o _ h
/-- The indices a copy writes in a w slot. -/
theorem set_mW (s : Fin 2) (j : Fin 4) : (mW s j).view.set = box (s := S2x4096x1024) ![s.val, 1024 * j.val, 0] S1x1024x1024.size :=
  (View.set_reshape _ _).trans (set_box cc0_scratch0 _ _ (wb_inb s j))
/-- The indices a copy of a finished tile reads. -/
theorem set_mO (s : Fin 2) (j : Fin 4) : (mO s j).view.set = box (s := S2x4096x1024) ![s.val, 256 * j.val, 0] S1x256x1024.size :=
  (View.set_reshape _ _).trans (set_box cc0_scratch0 _ _ (wo_inb s j))
/-- The indices a send reads in the comm buffers. -/
theorem set_mC (q : Fin 4) : (mC q).view.set = box (s := S4x1024x1024) ![q.val, 0, 0] S1x1024x1024.size :=
  (View.set_reshape _ _).trans (set_box cc0_scratch1 _ _ (cslot_inb q))
/-- The indices a load of an arrived tile writes. -/
theorem set_mCi (s : Fin 2) (j : Fin 4) : (mCi s j).view.set = box (s := S4x1024x1024) ![2 + s.val, 256 * j.val, 0] S1x256x1024.size :=
  (View.set_reshape _ _).trans (set_box cc0_scratch1 _ _ (ci_inb s j))
/-- The indices of a tile in the stage array. -/
theorem set_mS (o : Fin 2 → Nat) (h) : (mS o h).view.set = box (s := S4096x2048) o S1024x1024.size := set_box main_v1_1 o _ h
/-- The indices of a quarter of a tile in the stage array. -/
theorem set_mSi (o : Fin 2 → Nat) (h) : (mSi o h).view.set = box (s := S4096x2048) o S256x1024.size := set_box main_v1_1 o _ h
/-- The indices of a quarter of a tile in the result. -/
theorem set_mR (o : Fin 2 → Nat) (h) : (mR o h).view.set = box (s := S4096x2048) o S256x1024.size := set_box main_v1_0 o _ h
/-- The indices of a slot of the maxima. -/
theorem set_mM (o : Fin 3 → Nat) (h) : (mM o h).view.set = box (s := S4x8x128) o S1x8x128.size := set_box cc0_scratch2 o _ h

/-! ## What a copy leaves -/

section Copy

variable {κ κ' : Kind} {sp sp' : Space} {s : Shape} {e : EltTy}

/-- An element written by a copy is the source's element under the same index. -/
theorem write_read_emb (v : View sig κ sp s e) (v' : View sig κ' sp' s e) (fd : v.ty.Contents (Elt F)) (fs : v'.ty.Contents (Elt F)) (x : s.Idx) :
    HEq (v.write (Elt F) fd (v'.read (Elt F) fs) Finset.univ (v.emb x)) (fs (v'.emb x)) := by
  rw [View.write_emb_of_mem _ _ (Finset.mem_univ x), View.read_apply]
  exact (cast_heq _ _).trans (cast_heq _ _)

/-- An element written by a store is the value under the same index. -/
theorem write_at (v : View sig κ sp s e) (f : v.ty.Contents (Elt F)) (w : s.Idx → Elt F e) {x : s.Idx} {i : v.ty.Idx} (hi : v.emb x = i) :
    HEq (v.write (Elt F) f w Finset.univ i) (w x) := by
  subst hi
  rw [View.write_emb_of_mem _ _ (Finset.mem_univ x)]
  exact cast_heq _ _

end Copy

/-- Two indices of rank two with the same coordinates. -/
theorem ext2 {d : Fin 2 → Nat} {x y : (⟨2, d⟩ : Shape).Idx} (h0 : (x 0).val = (y 0).val) (h1 : (x 1).val = (y 1).val) : x = y :=
  funext fun a => match a with
    | ⟨0, _⟩ => Fin.ext h0
    | ⟨1, _⟩ => Fin.ext h1
/-- Two indices of rank three with the same coordinates. -/
theorem ext3 {d : Fin 3 → Nat} {x y : (⟨3, d⟩ : Shape).Idx} (h0 : (x 0).val = (y 0).val) (h1 : (x 1).val = (y 1).val)
    (h2 : (x 2).val = (y 2).val) : x = y :=
  funext fun a => match a with
    | ⟨0, _⟩ => Fin.ext h0
    | ⟨1, _⟩ => Fin.ext h1
    | ⟨2, _⟩ => Fin.ext h2

/-- Where `(p, q)` of a squeezed plane sits. -/
theorem rect_squeeze {A B C n m : Nat} (o : Fin 3 → Nat) (hb : ∀ a, o a + (![1, n, m] : Fin 3 → Nat) a ≤ (⟨3, ![A, B, C]⟩ : Shape).size a)
    (hn : (⟨2, ![n, m]⟩ : Shape).numel = (⟨3, ![1, n, m]⟩ : Shape).numel) (p : Fin n) (q : Fin m) (k : (⟨3, ![A, B, C]⟩ : Shape).Idx)
    (h0 : (k 0).val = o 0) (h1 : (k 1).val = o 1 + p.val) (h2 : (k 2).val = o 2 + q.val) :
    (Rect.unit (s := ⟨3, ![A, B, C]⟩) o ![1, n, m] hb).emb (Shape.reshapeEquiv hn (ix2 p q)) = k := by
  rw [reshapeEquiv_ix2_1ab]
  refine ext3 ?_ ?_ ?_ <;> rw [Rect.emb_apply]
  · show o 0 + 1 * 0 = _; omega
  · show o 1 + 1 * p.val = _; omega
  · show o 2 + 1 * q.val = _; omega

/-- Where `(p, q)` of a flat box sits. -/
theorem rect_flat {A B n m : Nat} (o : Fin 2 → Nat) (hb : ∀ a, o a + (![n, m] : Fin 2 → Nat) a ≤ (⟨2, ![A, B]⟩ : Shape).size a)
    (p : Fin n) (q : Fin m) (k : (⟨2, ![A, B]⟩ : Shape).Idx) (h0 : (k 0).val = o 0 + p.val) (h1 : (k 1).val = o 1 + q.val) :
    (Rect.unit (s := ⟨2, ![A, B]⟩) o ![n, m] hb).emb (ix2 p q) = k := by
  refine ext2 ?_ ?_ <;> rw [Rect.emb_apply]
  · show o 0 + 1 * p.val = _; omega
  · show o 1 + 1 * q.val = _; omega

/-- Where `(z, p, q)` of a box of rank three sits. -/
theorem rect_solid {A B C l n m : Nat} (o : Fin 3 → Nat) (hb : ∀ a, o a + (![l, n, m] : Fin 3 → Nat) a ≤ (⟨3, ![A, B, C]⟩ : Shape).size a)
    (z : Fin l) (p : Fin n) (q : Fin m) (k : (⟨3, ![A, B, C]⟩ : Shape).Idx)
    (h0 : (k 0).val = o 0 + z.val) (h1 : (k 1).val = o 1 + p.val) (h2 : (k 2).val = o 2 + q.val) :
    (Rect.unit (s := ⟨3, ![A, B, C]⟩) o ![l, n, m] hb).emb (ix3 z p q) = k := by
  refine ext3 ?_ ?_ ?_ <;> rw [Rect.emb_apply]
  · show o 0 + 1 * z.val = _; omega
  · show o 1 + 1 * p.val = _; omega
  · show o 2 + 1 * q.val = _; omega

/-- A row chunk of w, copied into its slot. -/
theorem copy_W (o : Fin 2 → Nat) (h) (s : Fin 2) (j : Fin 4) (fd : Vec F S2x4096x1024 .f32) (fs : Vec F S4096x8192 .f32)
    (i : S2x4096x1024.Idx) (hi : i ∈ box (s := S2x4096x1024) ![s.val, 1024 * j.val, 0] S1x1024x1024.size) (k : S4096x8192.Idx)
    (h0 : (k 0).val + 1024 * j.val = o 0 + (i 1).val) (h1 : (k 1).val = o 1 + (i 2).val) :
    ((mW s j).view.write (Elt F) fd ((mA o h).view.read (Elt F) fs) Finset.univ : Vec F S2x4096x1024 .f32) i = fs k := by
  obtain ⟨⟨b0, b0'⟩, ⟨b1, b1'⟩, b2, b2'⟩ := mem_box3.mp hi
  have e1 : (mW s j).view.emb (ix2 ⟨(i 1).val - 1024 * j.val, by omega⟩ ⟨(i 2).val, by omega⟩) = i :=
    rect_squeeze _ (wb_inb s j) _ _ _ i (show _ = s.val by omega) (show _ = 1024 * j.val + _ by dsimp only; omega) (show _ = 0 + _ by dsimp only; omega)
  have e2 : (mA o h).view.emb (ix2 ⟨(i 1).val - 1024 * j.val, by omega⟩ ⟨(i 2).val, by omega⟩) = k :=
    rect_flat o h _ _ k (by dsimp only; omega) (by dsimp only; omega)
  have := write_read_emb (F := F) (mW s j).view (mA o h).view fd fs (ix2 ⟨(i 1).val - 1024 * j.val, by omega⟩ ⟨(i 2).val, by omega⟩)
  rw [e1, e2] at this
  exact eq_of_heq this

/-- A comm slot, copied to the box at `o` of a stage array. -/
theorem copy_S (o : Fin 2 → Nat) (h) (q : Fin 4) (fd : Vec F S4096x2048 .bf16) (fs : Vec F S4x1024x1024 .bf16)
    (i : S4096x2048.Idx) (hi : i ∈ box (s := S4096x2048) o S1024x1024.size) (k : S4x1024x1024.Idx)
    (h0 : (k 0).val = q.val) (h1 : (k 1).val + o 0 = (i 0).val) (h2 : (k 2).val + o 1 = (i 1).val) :
    ((mS o h).view.write (Elt F) fd ((mC q).view.read (Elt F) fs) Finset.univ : Vec F S4096x2048 .bf16) i = fs k := by
  have hi' := mem_box.mp hi
  have b0 : (i 0).val < o 0 + 1024 := (hi' 0).2
  have b1 : (i 1).val < o 1 + 1024 := (hi' 1).2
  have e1 : (mS o h).view.emb (ix2 ⟨(k 1).val, by omega⟩ ⟨(k 2).val, by omega⟩) = i :=
    rect_flat o h _ _ i (by dsimp only; omega) (by dsimp only; omega)
  have e2 : (mC q).view.emb (ix2 ⟨(k 1).val, by omega⟩ ⟨(k 2).val, by omega⟩) = k :=
    rect_squeeze _ (cslot_inb q) _ _ _ k (show _ = q.val by omega) (show _ = 0 + _ by dsimp only; omega) (show _ = 0 + _ by dsimp only; omega)
  have := write_read_emb (F := F) (mS o h).view (mC q).view fd fs (ix2 ⟨(k 1).val, by omega⟩ ⟨(k 2).val, by omega⟩)
  rw [e1, e2] at this
  exact eq_of_heq this

/-- A row chunk of the stage array, copied into comm slot `2 + s`. -/
theorem copy_I (o : Fin 2 → Nat) (h) (s : Fin 2) (j : Fin 4) (fd : Vec F S4x1024x1024 .bf16) (fs : Vec F S4096x2048 .bf16)
    (i : S4x1024x1024.Idx) (hi : i ∈ box (s := S4x1024x1024) ![2 + s.val, 256 * j.val, 0] S1x256x1024.size) (k : S4096x2048.Idx)
    (h0 : (k 0).val + 256 * j.val = o 0 + (i 1).val) (h1 : (k 1).val = o 1 + (i 2).val) :
    ((mCi s j).view.write (Elt F) fd ((mSi o h).view.read (Elt F) fs) Finset.univ : Vec F S4x1024x1024 .bf16) i = fs k := by
  obtain ⟨⟨b0, b0'⟩, ⟨b1, b1'⟩, b2, b2'⟩ := mem_box3.mp hi
  have e1 : (mCi s j).view.emb (ix2 ⟨(i 1).val - 256 * j.val, by omega⟩ ⟨(i 2).val, by omega⟩) = i :=
    rect_squeeze _ (ci_inb s j) _ _ _ i (show _ = 2 + s.val by omega) (show _ = 256 * j.val + _ by dsimp only; omega) (show _ = 0 + _ by dsimp only; omega)
  have e2 : (mSi o h).view.emb (ix2 ⟨(i 1).val - 256 * j.val, by omega⟩ ⟨(i 2).val, by omega⟩) = k :=
    rect_flat o h _ _ k (by dsimp only; omega) (by dsimp only; omega)
  have := write_read_emb (F := F) (mCi s j).view (mSi o h).view fd fs (ix2 ⟨(i 1).val - 256 * j.val, by omega⟩ ⟨(i 2).val, by omega⟩)
  rw [e1, e2] at this
  exact eq_of_heq this

/-- A row chunk of a finished tile, copied to the box at `o` of the result. -/
theorem copy_R (o : Fin 2 → Nat) (h) (s : Fin 2) (j : Fin 4) (fd : Vec F S4096x2048 .f32) (fs : Vec F S2x4096x1024 .f32)
    (i : S4096x2048.Idx) (hi : i ∈ box (s := S4096x2048) o S256x1024.size) (k : S2x4096x1024.Idx)
    (h0 : (k 0).val = s.val) (h1 : (k 1).val + o 0 = (i 0).val + 256 * j.val) (h2 : (k 2).val + o 1 = (i 1).val) :
    ((mR o h).view.write (Elt F) fd ((mO s j).view.read (Elt F) fs) Finset.univ : Vec F S4096x2048 .f32) i = fs k := by
  have hi' := mem_box.mp hi
  have b0 : o 0 ≤ (i 0).val ∧ (i 0).val < o 0 + 256 := hi' 0
  have b1 : (i 1).val < o 1 + 1024 := (hi' 1).2
  have e1 : (mR o h).view.emb (ix2 ⟨(k 1).val - 256 * j.val, by omega⟩ ⟨(k 2).val, by omega⟩) = i :=
    rect_flat o h _ _ i (by dsimp only; omega) (by dsimp only; omega)
  have e2 : (mO s j).view.emb (ix2 ⟨(k 1).val - 256 * j.val, by omega⟩ ⟨(k 2).val, by omega⟩) = k :=
    rect_squeeze _ (wo_inb s j) _ _ _ k (show _ = s.val by omega) (show _ = 256 * j.val + _ by dsimp only; omega) (show _ = 0 + _ by dsimp only; omega)
  have := write_read_emb (F := F) (mR o h).view (mO s j).view fd fs (ix2 ⟨(k 1).val - 256 * j.val, by omega⟩ ⟨(k 2).val, by omega⟩)
  rw [e1, e2] at this
  exact eq_of_heq this

/-- A slot of the maxima, copied to the same place of another device's array. -/
theorem copy_M (o : Fin 3 → Nat) (h) (fd fs : Vec F S4x8x128 .f32) (i : S4x8x128.Idx) (hi : i ∈ box (s := S4x8x128) o S1x8x128.size) :
    ((mM o h).view.write (Elt F) fd ((mM o h).view.read (Elt F) fs) Finset.univ : Vec F S4x8x128 .f32) i = fs i := by
  have hi' := mem_box.mp hi
  have b0 : o 0 ≤ (i 0).val ∧ (i 0).val < o 0 + 1 := hi' 0
  have b1 : o 1 ≤ (i 1).val ∧ (i 1).val < o 1 + 8 := hi' 1
  have b2 : o 2 ≤ (i 2).val ∧ (i 2).val < o 2 + 128 := hi' 2
  have e1 : (mM o h).view.emb (ix3 ⟨(i 0).val - o 0, by omega⟩ ⟨(i 1).val - o 1, by omega⟩ ⟨(i 2).val - o 2, by omega⟩) = i :=
    rect_solid o h _ _ _ i (by dsimp only; omega) (by dsimp only; omega) (by dsimp only; omega)
  have := write_read_emb (F := F) (mM o h).view (mM o h).view fd fs (ix3 ⟨(i 0).val - o 0, by omega⟩ ⟨(i 1).val - o 1, by omega⟩ ⟨(i 2).val - o 2, by omega⟩)
  rw [e1] at this
  exact eq_of_heq this

/-! ## What a load reads, and what a store leaves -/

/-- The rectangle of a load or store of w slot `s`'s first `1024` rows. -/
abbrev rTop (s : Fin 2) : Rect S2x4096x1024 := Rect.unit (s := S2x4096x1024) ![s.val, 0, 0] S1x1024x1024.size (wtop_inb s)
/-- The rectangle of w slot `s`. -/
abbrev rW (s : Fin 2) : Rect S2x4096x1024 := Rect.unit (s := S2x4096x1024) ![s.val, 0, 0] S1x4096x1024.size (wslot_inb s)
/-- The rectangle of comm slot `q`. -/
abbrev rC (q : Fin 4) : Rect S4x1024x1024 := Rect.unit (s := S4x1024x1024) ![q.val, 0, 0] S1x1024x1024.size (cslot_inb q)
/-- The rectangle of the slot of the maxima at `o`. -/
abbrev rM (o : Fin 3 → Nat) (h : ∀ a, o a + S1x8x128.size a ≤ S4x8x128.size a) : Rect S4x8x128 := Rect.unit (s := S4x8x128) o S1x8x128.size h

/-- The w buffers. -/
abbrev aW : Memref sig .tc .vmem S2x4096x1024 .f32 := Memref.whole cc0_scratch0
/-- The comm buffers. -/
abbrev aC : Memref sig .tc .vmem S4x1024x1024 .bf16 := Memref.whole cc0_scratch1
/-- The maxima. -/
abbrev aM : Memref sig .tc .vmem S4x8x128 .f32 := Memref.whole cc0_scratch2

/-- The indices a store of a finished tile writes. -/
theorem set_rTop (s : Fin 2) : (aW.access (rTop s)).set = box (s := S2x4096x1024) ![s.val, 0, 0] S1x1024x1024.size := set_box cc0_scratch0 _ _ (wtop_inb s)
/-- The indices a load of a w tile reads. -/
theorem set_rW (s : Fin 2) : (aW.access (rW s)).set = box (s := S2x4096x1024) ![s.val, 0, 0] S1x4096x1024.size := set_box cc0_scratch0 _ _ (wslot_inb s)
/-- The indices a load or store of a comm slot touches. -/
theorem set_rC (q : Fin 4) : (aC.access (rC q)).set = box (s := S4x1024x1024) ![q.val, 0, 0] S1x1024x1024.size := set_box cc0_scratch1 _ _ (cslot_inb q)
/-- The indices a store of a maximum writes. -/
theorem set_rM (o : Fin 3 → Nat) (h) : (aM.access (rM o h)).set = box (s := S4x8x128) o S1x8x128.size := set_box cc0_scratch2 _ _ h

/-- Reading w slot `s`. -/
theorem read_W (s : Fin 2) (f : Vec F S2x4096x1024 .f32) (i : S1x4096x1024.Idx) :
    ((aW.access (rW s)).read (Elt F) f : Vec F S1x4096x1024 .f32) i = f (ix3 s (i 1) (i 2)) := by
  rw [View.read_apply]
  refine (cast_eq _ _).trans (congrArg f ?_)
  rw [show i = ix3 (i 0) (i 1) (i 2) from ext3 rfl rfl rfl]
  have := (i 0).isLt
  exact rect_solid _ (wslot_inb s) _ _ _ _ (show s.val = s.val + (i 0).val by have : (i 0).val < 1 := (i 0).isLt; omega) (Nat.zero_add _).symm (Nat.zero_add _).symm

/-- Reading comm slot `q`. -/
theorem read_C (q : Fin 4) (f : Vec F S4x1024x1024 .bf16) (i : S1x1024x1024.Idx) :
    ((aC.access (rC q)).read (Elt F) f : Vec F S1x1024x1024 .bf16) i = f (ix3 q (i 1) (i 2)) := by
  rw [View.read_apply]
  refine (cast_eq _ _).trans (congrArg f ?_)
  rw [show i = ix3 (i 0) (i 1) (i 2) from ext3 rfl rfl rfl]
  exact rect_solid _ (cslot_inb q) _ _ _ _ (show q.val = q.val + (i 0).val by have : (i 0).val < 1 := (i 0).isLt; omega) (Nat.zero_add _).symm (Nat.zero_add _).symm

/-- Writing comm slot `q`. -/
theorem write_C (q : Fin 4) (f : Vec F S4x1024x1024 .bf16) (v : FVec F S1x1024x1024 .bf16) (i : S4x1024x1024.Idx)
    (hi : i ∈ box (s := S4x1024x1024) ![q.val, 0, 0] S1x1024x1024.size) :
    ((aC.access (rC q)).write (Elt F) f v Finset.univ : Vec F S4x1024x1024 .bf16) i = v (ix3 0 (i 1) (i 2)) := by
  obtain ⟨⟨b0, b0'⟩, -, -⟩ := mem_box3.mp hi
  have e : (aC.access (rC q)).emb (ix3 (0 : Fin 1) (i 1) (i 2)) = i :=
    rect_solid _ (cslot_inb q) _ _ _ i (show _ = q.val + 0 by omega) (show _ = 0 + _ by omega) (show _ = 0 + _ by omega)
  exact eq_of_heq (write_at (aC.access (rC q)) f v e)

/-- Writing the first rows of w slot `s`. -/
theorem write_Top (s : Fin 2) (f : Vec F S2x4096x1024 .f32) (v : FVec F S1x1024x1024 .f32) (i : S2x4096x1024.Idx)
    (hi : i ∈ box (s := S2x4096x1024) ![s.val, 0, 0] S1x1024x1024.size) (k : S1x1024x1024.Idx) (h1 : (k 1).val = (i 1).val) (h2 : (k 2).val = (i 2).val) :
    ((aW.access (rTop s)).write (Elt F) f v Finset.univ : Vec F S2x4096x1024 .f32) i = v k := by
  obtain ⟨⟨b0, b0'⟩, -, -⟩ := mem_box3.mp hi
  have e : (aW.access (rTop s)).emb (ix3 (k 0) (k 1) (k 2)) = i :=
    rect_solid _ (wtop_inb s) _ _ _ i (show _ = s.val + _ by have : (k 0).val < 1 := (k 0).isLt; omega) (show _ = 0 + _ by omega) (show _ = 0 + _ by omega)
  exact (eq_of_heq (write_at (aW.access (rTop s)) f v e)).trans (congrArg v (ext3 rfl rfl rfl))

/-- Writing the slot of the maxima at `o`. -/
theorem write_M (o : Fin 3 → Nat) (h) (f : Vec F S4x8x128 .f32) (v : FVec F S1x8x128 .f32) (i : S4x8x128.Idx)
    (hi : i ∈ box (s := S4x8x128) o S1x8x128.size) (k : S1x8x128.Idx) (h1 : o 1 + (k 1).val = (i 1).val) (h2 : o 2 + (k 2).val = (i 2).val) :
    ((aM.access (rM o h)).write (Elt F) f v Finset.univ : Vec F S4x8x128 .f32) i = v k := by
  have hi' := mem_box.mp hi
  have b0 : o 0 ≤ (i 0).val ∧ (i 0).val < o 0 + 1 := hi' 0
  have e : (aM.access (rM o h)).emb (ix3 (k 0) (k 1) (k 2)) = i :=
    rect_solid o h _ _ _ i (by have : (k 0).val < 1 := (k 0).isLt; omega) (by omega) (by omega)
  exact (eq_of_heq (write_at (aM.access (rM o h)) f v e)).trans (congrArg v (ext3 rfl rfl rfl))

end Cert.KernelIdeal.Coll

end
-- ==== Proof.KernelIdeal.Around.lean ====
/-
  The devices around a device, the printed offsets and device numbers in closed form, and the
  semaphores that two devices share.
-/
module

public import proofs.«01_k».proof.Proof.KernelIdeal.Body

@[expose] public section

set_option maxRecDepth 65536

noncomputable section

namespace Cert.KernelIdeal.Coll

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

/-! ## The devices around -/

/-- The device `a + 1` places on. -/
def fw (c : Dev nD) (a : Fin 4) : Dev nD := ⟨(c.val + 1 + a.val) % 4, Nat.mod_lt _ (by decide)⟩
/-- The device `w` places back. -/
def bk (c : Dev nD) (w : Fin 4) : Dev nD := ⟨(c.val + 4 - w.val) % 4, Nat.mod_lt _ (by decide)⟩

/-- Going forward and then back ends where it began. -/
theorem bk_fw (c : Dev nD) (i : Fin 3) : bk (fw c i.castSucc) i.succ = c := by revert c i; decide
/-- Going back and then forward ends where it began. -/
theorem fw_bk (c : Dev nD) (i : Fin 3) : fw (bk c i.succ) i.castSucc = c := by revert c i; decide
/-- Going back by the opposite distance is going forward. -/
theorem bk_rev (c : Dev nD) (i : Fin 3) : bk c i.rev.succ = fw c i.castSucc := by revert c i; decide
/-- The fourth step forward is the device itself. -/
theorem fw_last (c : Dev nD) : fw c 3 = c := by revert c; decide
/-- Going back by nothing is the device itself. -/
theorem bk_zero (c : Dev nD) : bk c 0 = c := by revert c; decide
/-- The device a barrier signal goes to is that many steps forward. -/
theorem sigDev_eq (c : Dev nD) (i : Fin 3) : sigDev c i = fw c i.castSucc := by revert c i; decide
/-- The device a maximum goes to is that many steps forward. -/
theorem maxDev_eq (c : Dev nD) (i : Fin 3) : maxDev c i = fw c i.castSucc := by revert c i; decide
/-- The number of the send of distance `w + 1` and half `h`. -/
abbrev tn (w : Fin 3) (h : Fin 2) : Fin 6 := ⟨2 * w.val + h.val, by omega⟩
/-- The device a tile goes to is that many steps forward. -/
theorem sendDev_eq (c : Dev nD) (w : Fin 3) (h : Fin 2) : sendDev c (tn w h) = fw c w.castSucc := by revert c w h; decide

/-! ## The printed offsets -/

/-- A tile is written at the sender's rows and its half's columns. -/
theorem offS_eq (c : Dev nD) (h : Fin 2) : offS c h = ![1024 * c.val, 1024 * h.val] := by revert c h; decide
/-- A tile is waited for at the rows of the device it comes from. -/
theorem offR_eq (c : Dev nD) (h : Fin 2) (w : Fin 3) : offR c h (BitVec.ofNat 32 (1 + w.val)) = ![1024 * (bk c w.succ).val, 1024 * h.val] := by
  revert c h w; decide
/-- A quarter of a tile lies at its device's rows, a quarter further each. -/
theorem offA_eq (c : Dev nD) (h : Fin 2) (w r : Fin 4) :
    offA c h (BitVec.ofNat 32 w.val) (BitVec.ofNat 32 (256 * r.val)) = ![1024 * (bk c w).val + 256 * r.val, 1024 * h.val] := by
  revert c h w r; decide
/-- A quarter of the w tile for the device `a` steps on lies at that device's columns. -/
theorem offW_eq (c : Dev nD) (a : Fin 4) (h : Fin 2) (j : Fin 4) :
    offW c (BitVec.ofNat 32 a.val) (BitVec.ofNat 32 (1024 * h.val)) j = ![1024 * j.val, 2048 * (fw c a).val + 1024 * h.val] := by
  revert c a h j; decide
/-- The own maximum is stored in the device's own slot. -/
theorem off7_eq (c : Dev nD) : k0_off7 c = ![c.val, 0, 0] := by revert c; decide
/-- The own maximum is sent from the device's own slot. -/
theorem off8_eq (c : Dev nD) : k0_off8 c = ![c.val, 0, 0] := by revert c; decide
/-- A maximum is waited for in the slot of the device it comes from. -/
theorem off9_eq (c : Dev nD) (i : Fin 3) : k0_off9 c (BitVec.ofNat 32 (1 + i.val)) = ![(bk c i.succ).val, 0, 0] := by revert c i; decide

/-! ## The cells -/

/-- The semaphores two devices share. -/
inductive CK where
  | bar
  | snd (w : Fin 3) (h : Fin 2)
  | rcv (w : Fin 3) (h : Fin 2)
  | xs (i : Fin 3)
  | xr (i : Fin 3)
deriving DecidableEq

/-- All nineteen of them. -/
def kinds : List CK :=
  [.bar, .snd 0 0, .snd 0 1, .snd 1 0, .snd 1 1, .snd 2 0, .snd 2 1, .rcv 0 0, .rcv 0 1, .rcv 1 0, .rcv 1 1, .rcv 2 0, .rcv 2 1,
    .xs 0, .xs 1, .xs 2, .xr 0, .xr 1, .xr 2]

/-- Every kind of cell is in the list. -/
theorem kinds_all (k : CK) : k ∈ kinds := by
  rcases k with _ | ⟨w, h⟩ | ⟨w, h⟩ | i | i
  · exact List.mem_cons_self
  · revert w h; decide
  · revert w h; decide
  · revert i; decide
  · revert i; decide

/-- There are finitely many kinds of cells. -/
instance : Fintype CK := ⟨⟨kinds, by decide⟩, kinds_all⟩

/-- Which semaphore each is. -/
def csem : CK → SemLoc sig
  | .bar => .reg semB
  | .snd w h => .dma (semS (tn w h))
  | .rcv w h => .dma (semR w h)
  | .xs i => .dma (semXs i)
  | .xr i => .dma (semXr i)

/-- Device `c`'s cell of the kind `k`. -/
abbrev cell (c : Dev nD) (k : CK) : GSem nD τ sig := ((c : Thread nD τ), csem k)

/-- Which kind a semaphore is of. -/
def dec : SemLoc sig → Option CK
  | .reg s => if s = semB then some .bar else none
  | .dma q => if q.val < 9 then none
    else if q.val < 15 then some (.snd (Fin.ofNat 3 ((q.val - 9) / 2)) (Fin.ofNat 2 (q.val - 9)))
    else if q.val < 21 then some (.rcv (Fin.ofNat 3 ((q.val - 15) / 2)) (Fin.ofNat 2 (q.val - 15)))
    else if q.val < 24 then some (.xs (Fin.ofNat 3 (q.val - 21)))
    else if q.val < 27 then some (.xr (Fin.ofNat 3 (q.val - 24)))
    else none

/-- The kind read off a cell's semaphore is the kind it was made from. -/
theorem dec_csem (k : CK) : dec (csem k) = some k := by revert k; decide

/-- Different kinds have different semaphores. -/
theorem csem_inj {k k' : CK} (h : csem k = csem k') : k = k' := by
  have := congrArg dec h
  rw [dec_csem, dec_csem] at this
  exact Option.some.inj this

/-- A semaphore of the w loads is no shared cell's. -/
theorem dec_W (s : Fin 2) (j : Fin 4) : dec (.dma (semW s j)) = none := by revert s j; decide
/-- A semaphore of the tile loads is no shared cell's. -/
theorem dec_I (s : Fin 2) (j : Fin 4) : dec (.dma (semI s j)) = none := by revert s j; decide
/-- A semaphore of the result writes is no shared cell's. -/
theorem dec_O (s : Fin 2) (j : Fin 4) : dec (.dma (semO s j)) = none := by revert s j; decide

end Cert.KernelIdeal.Coll

end
-- ==== Proof.KernelIdeal.Sched.lean ====
/-
  Who talks to whom, on which semaphore, and what is handed over.

  Device `c` computes four tiles of one row block: one for itself and one for each other device, in two
  halves. Before anything is sent every device tells every other, on the barrier's semaphore, that it
  may be written to, and hands over the places the other will write. A tile arrives on the semaphore of
  its distance and half, and brings the place with the tile in it.
-/
module

public import proofs.«01_k».proof.Proof.KernelIdeal.Geometry
public import proofs.«01_k».proof.Proof.KernelIdeal.Around
public import Idealize.ShloMosaic.Lib.Rounds
public import Idealize.ShloMosaic.Lib.Pipeline.Launch
public import Idealize.ShloMosaic.Lib.Tactic

@[expose] public section

set_option maxRecDepth 65536

noncomputable section

namespace Cert.KernelIdeal.Coll

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal Cert.KernelIdeal.Gen

variable {F : FTy → Type} [FloatOps F]

/-! ## The resource algebra -/

/-- The rounds of the shared cells: a barrier cell has three duties a round. -/
abbrev UB : Type := URounds (GSem nD τ sig) (Fin 3)
/-- Beside the pipeline's rounds, the shared cells' rounds and the counters of the local copies. -/
abbrev UU : Type := UR sig nD τ × (UB × Counters)

local notation "𝕄" => MT nD τ sig Unit (Elt F) ℕ UU ℕ

/-- Where the pipeline's rounds live. -/
abbrev EP : Emb (UR sig nD τ) (MT nD τ sig Unit (Elt F) ℕ UU ℕ) := embL
/-- Where the shared cells' rounds live. -/
abbrev ER : Emb UB (MT nD τ sig Unit (Elt F) ℕ UU ℕ) := (Emb.inl : Emb UB (UB × Counters)).trans embR
/-- Where the local copies' counters live. -/
abbrev EC : UEmb Counters (MT nD τ sig Unit (Elt F) ℕ UU ℕ) := countersEmb

/-! ## The arrays -/

/-- A share of part of w. -/
abbrev ptA (c : Dev nD) (S : Finset S4096x8192.Idx) (q : PosShare TreeShare) (f : Vec F S4096x8192 .f32) : sProp 𝕄 := (c : Thread nD τ).loc main_arg1 ↦[S]{q} f
/-- The staged x. -/
abbrev ptX (c : Dev nD) (f : Vec F S1024x4096 .f32) : sProp 𝕄 := (c : Thread nD τ).loc cc0_stg0_0 ↦{fullShare} f
/-- Part of the w buffers. -/
abbrev ptW (c : Dev nD) (S : Finset S2x4096x1024.Idx) (f : Vec F S2x4096x1024 .f32) : sProp 𝕄 := (c : Thread nD τ).loc cc0_scratch0 ↦[S]{fullShare} f
/-- Part of the comm buffers. -/
abbrev ptC (c : Dev nD) (S : Finset S4x1024x1024.Idx) (f : Vec F S4x1024x1024 .bf16) : sProp 𝕄 := (c : Thread nD τ).loc cc0_scratch1 ↦[S]{fullShare} f
/-- A share of part of the maxima. -/
abbrev ptM (c : Dev nD) (S : Finset S4x8x128.Idx) (q : PosShare TreeShare) (f : Vec F S4x8x128 .f32) : sProp 𝕄 := (c : Thread nD τ).loc cc0_scratch2 ↦[S]{q} f
/-- Part of the stage array. -/
abbrev ptS (c : Dev nD) (S : Finset S4096x2048.Idx) (f : Vec F S4096x2048 .bf16) : sProp 𝕄 := (c : Thread nD τ).loc main_v1_1 ↦[S]{fullShare} f
/-- Part of the result. -/
abbrev ptR (c : Dev nD) (S : Finset S4096x2048.Idx) (f : Vec F S4096x2048 .f32) : sProp 𝕄 := (c : Thread nD τ).loc main_v1_0 ↦[S]{fullShare} f

/-- A tile of the stage array or of the result: the rows device `e` sends, half `h`. -/
def tileS (e : Dev nD) (h : Fin 2) : Finset S4096x2048.Idx := box (s := S4096x2048) ![1024 * e.val, 1024 * h.val] S1024x1024.size
/-- A comm slot. -/
def slotC (q : Fin 4) : Finset S4x1024x1024.Idx := box (s := S4x1024x1024) ![q.val, 0, 0] S1x1024x1024.size
/-- A w slot. -/
def slotW (s : Fin 2) : Finset S2x4096x1024.Idx := box (s := S2x4096x1024) ![s.val, 0, 0] S1x4096x1024.size
/-- The slot of device `e`'s maximum. -/
def slotM (e : Dev nD) : Finset S4x8x128.Idx := box (s := S4x8x128) ![e.val, 0, 0] S1x8x128.size

/-! ## What is computed -/

section Contents
variable (X : Dev nD → Vec F S1024x4096 .f32) (W : Dev nD → Vec F S4096x8192 .f32)

/-- The columns of w that device `e` multiplies by for device `d`, half `h`. -/
def wTile (e d : Dev nD) (h : Fin 2) : Vec F S1x4096x1024 .f32 := fun i =>
  W e (ix2 (i 1) ⟨2048 * d.val + 1024 * h.val + (i 2).val, by have h1 : (i 2).val < 1024 := (i 2).isLt; have h2 : d.val < 4 := d.isLt; have h3 := h.isLt; omega⟩)
/-- The tile device `e` computes for device `d`, half `h`. -/
def tl (e d : Dev nD) (h : Fin 2) : FVec F S1x1024x1024 .bf16 := k0_pay3 (X e) (wTile W e d h)
/-- One step of device `e`'s running maximum. -/
def accStep (e : Dev nD) (acc : F .f32) (p : Fin 4 × Fin 2) : F .f32 := k0_pay5 acc (X e) (wTile W e (fw e p.1) p.2)
/-- The order the tiles are computed in. -/
def order : List (Fin 4 × Fin 2) := [(0, 0), (0, 1), (1, 0), (1, 1), (2, 0), (2, 1), (3, 0), (3, 1)]
/-- Device `e`'s maximum. -/
def amx (e : Dev nD) : F .f32 := order.foldl (accStep X W e) (Scalar.ofBits .f32 0x00000000#32)
/-- All four maxima, each in its slot. -/
def mAll : Vec F S4x8x128 .f32 := fun i => k0_pay28 (amx X W (i 0)) (ix3 0 (i 1) (i 2))
/-- The scale and its inverse. -/
def scl : F .f32 := k0_pay30 (mAll X W)
/-- The inverse of the scale. -/
def inv : F .f32 := k0_pay31 (mAll X W)
/-- The finished tile. -/
def outT (e d : Dev nD) (h : Fin 2) : FVec F S1x1024x1024 .f32 := k0_pay33 (scl X W) (inv X W) (tl X W e d h)

/-- Where an index of the stage array or the result lies: which device's rows, which half, and where in the tile. -/
def rowD (i : S4096x2048.Idx) : Dev nD := ⟨(i 0).val / 1024, by have h : (i 0).val < 4096 := (i 0).isLt; show _ < 4; omega⟩
/-- Which half an index lies in. -/
def colH (i : S4096x2048.Idx) : Fin 2 := ⟨(i 1).val / 1024, by have h : (i 1).val < 2048 := (i 1).isLt; omega⟩
/-- Where in its tile an index lies. -/
def inTile (i : S4096x2048.Idx) : S1x1024x1024.Idx := ix3 0 ⟨(i 0).val % 1024, Nat.mod_lt _ (by decide)⟩ ⟨(i 1).val % 1024, Nat.mod_lt _ (by decide)⟩

/-- Device `d`'s result. -/
def outAll (d : Dev nD) : Vec F S4096x2048 .f32 := fun i => outT X W (rowD i) d (colH i) (inTile i)
/-- A tile spread over the stage array. -/
def sG (Y : FVec F S1x1024x1024 .bf16) : Vec F S4096x2048 .bf16 := fun i => Y (inTile i)
/-- A tile spread over the comm slots. -/
def cG (Y : FVec F S1x1024x1024 .bf16) : Vec F S4x1024x1024 .bf16 := fun i => Y (ix3 0 (i 1) (i 2))

/-! ## What is handed over -/

/-- What device `e` hands `d` at the barrier: the places `d` will write. -/
abbrev barPay (e d : Dev nD) : sProp 𝕄 :=
  iprop((∃ f, ptS (F := F) e (tileS d 0) f) ∗ (∃ f, ptS (F := F) e (tileS d 1) f) ∗ (∃ f, ptM (F := F) e (slotM d) fullShare f))
/-- What a send leaves behind: its comm slot. -/
abbrev sndPay (c : Dev nD) (q : Fin 4) : sProp 𝕄 := iprop(∃ f, ptC (F := F) c (slotC q) f)
/-- What arrives: the tile `e` computed for `c`. -/
abbrev rcvPay (c e : Dev nD) (h : Fin 2) : sProp 𝕄 := ptS c (tileS e h) (sG (tl X W e c h))
/-- The share of the own maximum a send reads. -/
abbrev mShare (i : Fin 3) : PosShare TreeShare := Transfers.shareTok fullShare 3 i

/-- Which comm slot a send reads. -/
def sq (w : Fin 3) (h : Fin 2) : Fin 4 := Fin.ofNat 4 (2 * w.val + h.val)

/-- What a duty of a cell of device `c` hands over. -/
def pay (c : Dev nD) (d : Fin 3) : CK → sProp 𝕄
  | .bar => barPay (bk c d.succ) c
  | .snd w h => sndPay c (sq w h)
  | .rcv w h => rcvPay X W c (bk c w.succ) h
  | .xs i => ptM c (slotM c) (mShare i) (mAll X W)
  | .xr i => ptM c (slotM (bk c i.succ)) fullShare (mAll X W)

/-- What is handed over may be kept in an invariant. -/
instance pay_storable (c : Dev nD) (d : Fin 3) (k : CK) : BI.Storable (upEmb : UEmb _ 𝕄) (pay X W c d k) := by
  cases k <;> (unfold pay; dsimp only; infer_instance)

/-- The amount of a tile and of a slot of the maxima. -/
def NT : ℕ := (mC 0).view.dmaCredit
/-- The amount of a slot of the maxima. -/
def NM : ℕ := (mM ![0, 0, 0] inb_S4x8x128_S1x8x128_0_0_0).view.dmaCredit
/-- A tile's amount is positive. -/
theorem NT_pos : 0 < NT := View.dmaCredit_pos _ (by decide)
/-- A slot's amount is positive. -/
theorem NM_pos : 0 < NM := View.dmaCredit_pos _ (by decide)

/-- The units of one duty. -/
def amt : CK → ℕ
  | .bar => 1
  | .snd _ _ => NT
  | .rcv _ _ => NT
  | .xs _ => NM
  | .xr _ => NM
/-- Every duty has a positive amount. -/
theorem amt_pos (k : CK) : 0 < amt k := by
  cases k
  · exact Nat.one_pos
  · exact NT_pos
  · exact NT_pos
  · exact NM_pos
  · exact NM_pos

/-- The duties of a round. -/
def dut : CK → Finset (Fin 3)
  | .bar => Finset.univ
  | _ => {0}

/-- One round a cell. -/
def sched : Rounds.Schedule (GSem nD τ sig) (Fin 3) 𝕄 where
  duties g r := if r = 0 ∧ g.1.2 = .tc then (match dec g.2 with | some k => dut k | none => ∅) else ∅
  unitless _ := False
  amount g _ _ := match dec g.2 with | some k => amt k | none => 1
  payload g _ d := match dec g.2 with | some k => pay X W g.1.1 d k | none => iprop(emp)
  amount_pos g _ _ _ := by
    split
    · exact amt_pos _
    · exact Nat.one_pos

/-- Every payload may be kept in an invariant. -/
instance sched_payload_storable (g : GSem nD τ sig) (r : ℕ) (d : Fin 3) :
    BI.Storable (upEmb : UEmb _ 𝕄) ((sched (F := F) X W).payload g r d) := by
  show BI.Storable upEmb (match dec g.2 with | some k => pay X W g.1.1 d k | none => iprop(emp))
  split <;> infer_instance

/-- The duties of a shared cell. -/
theorem duties_cell (c : Dev nD) (k : CK) : (sched X W).duties (cell c k) 0 = dut k := by
  dsimp only [sched, cell]; rw [if_pos ⟨rfl, rfl⟩, dec_csem]
/-- There is one round only. -/
theorem duties_later (g : GSem nD τ sig) : ∀ r, 0 + 1 ≤ r → (sched X W).duties g r = ∅ :=
  fun r hr => by dsimp only [sched]; rw [if_neg fun h => by omega]
/-- The units of a duty of a shared cell. -/
theorem amount_cell (c : Dev nD) (k : CK) (r : ℕ) (d : Fin 3) : (sched X W).amount (cell c k) r d = amt k := by
  dsimp only [sched, cell]; rw [dec_csem]
/-- What a duty of a shared cell hands over. -/
theorem payload_cell (c : Dev nD) (k : CK) (r : ℕ) (d : Fin 3) : (sched X W).payload (cell c k) r d = pay X W c d k := by
  dsimp only [sched, cell]; rw [dec_csem]

/-- The units a shared cell expects in all. -/
theorem expect_cell (c : Dev nD) (k : CK) : (sched X W).expect (cell c k) 0 = (dut k).card * amt k := by
  unfold Schedule.expect Schedule.amountOf
  rw [duties_cell, Finset.sum_congr rfl fun d _ => amount_cell X W c k 0 d, Finset.sum_const, smul_eq_mul]
/-- All that a shared cell hands over. -/
theorem rest_cell (c : Dev nD) (k : CK) :
    bigSep ((sched X W).duties (cell c k) 0 \ ∅) (fun d => (sched X W).payload (cell c k) 0 d) = bigSep (dut k) fun d => pay X W c d k := by
  rw [Finset.sdiff_empty, duties_cell]
  exact bigSep_congr fun d _ => payload_cell X W c k 0 d
end Contents

/-! ## The levels and what is owed -/

/-- The levels: barrier cells below the cells things arrive on, everything else below both. -/
def lvK : Option CK → ℕ
  | some .bar => 1
  | some (.rcv _ _) => 2
  | some (.xr _) => 2
  | _ => 0
/-- The main core's cells have a level. -/
def L (g : GSem nD τ sig) : Finset Unit := if g.1.2 = .tc then {()} else ∅
/-- A cell's level is its kind's. -/
def lv (g : GSem nD τ sig) (_ : Unit) : ℕ := lvK (dec g.2)

/-- Every cell of the main core has a level. -/
theorem L_tc (c : Dev nD) (sm : SemLoc sig) : L ((c : Thread nD τ), sm) = {()} := if_pos rfl

/-- What a device owes that has the payments `l` still to make, the first of them next. -/
def due (l : List (Dev nD × CK)) : CellTallies nD τ sig Unit := l.foldr (fun p O => O + tallyAt (cell p.1 p.2) () (amt p.2)) 0

/-- One more payment to make is one more payment owed. -/
theorem due_cons (c : Dev nD) (k : CK) (l : List (Dev nD × CK)) : due ((c, k) :: l) = due l + tallyAt (cell c k) () (amt k) := rfl

/-- Where something is owed, a payment to that cell is still to be made. -/
theorem due_pos {l : List (Dev nD × CK)} {g : GSem nD τ sig} {u : Unit} (h : 0 < due l g u) : ∃ p ∈ l, g = cell p.1 p.2 := by
  induction l with
  | nil => exact absurd h (Nat.lt_irrefl 0)
  | cons p l ih =>
    by_cases hg : g = cell p.1 p.2
    · exact ⟨p, List.mem_cons_self, hg⟩
    · have h' : 0 < due l g u := by
        have e : due (p :: l) g u = due l g u + tallyAt (cell p.1 p.2) () (amt p.2) g u := by
          show (due l + tallyAt (cell p.1 p.2) () (amt p.2)) g u = _
          rw [Pi.add_apply, Finsupp.add_apply]
        rw [e, tallyAt_apply, if_neg fun x => hg x.1] at h
        exact h
      obtain ⟨p', hp', e⟩ := ih h'
      exact ⟨p', List.mem_cons_of_mem _ hp', e⟩

/-- A wait is allowed below everything still owed. -/
theorem may (c : Dev nD) (sm : SemLoc sig) (l : List (Dev nD × CK)) (h : ∀ p ∈ l, lvK (dec sm) < lvK (some p.2)) :
    (levAts L lv : sProp 𝕄) ⊢ MayWait (c : Thread nD τ) sm () (due l) :=
  MayOwe.of_cut (L := L) (lev := lv) (lvK (dec sm)) (fun p hp => by rw [Finset.mem_singleton.mp hp, L_tc]; exact Finset.mem_singleton_self _)
    (fun g u hg => by obtain ⟨p, hp, rfl⟩ := due_pos hg; exact Finset.mem_singleton_self _)
    (fun p hp => by rw [Finset.mem_singleton.mp hp]; exact le_refl _)
    (fun g u hg => by
      obtain ⟨p, hp, rfl⟩ := due_pos hg
      show lvK (dec sm) < lvK (dec (csem p.2))
      rw [dec_csem]; exact h p hp)

/-- The payments device `c` makes after the barrier, in order. -/
def debts (c : Dev nD) : List (Dev nD × CK) :=
  [(fw c 0, .rcv 0 0), (fw c 0, .rcv 0 1), (fw c 1, .rcv 1 0), (fw c 1, .rcv 1 1), (fw c 2, .rcv 2 0), (fw c 2, .rcv 2 1),
    (fw c 0, .xr 0), (fw c 1, .xr 1), (fw c 2, .xr 2)]
/-- All its payments. -/
def debts₀ (c : Dev nD) : List (Dev nD × CK) := (fw c 0, .bar) :: (fw c 1, .bar) :: (fw c 2, .bar) :: debts c

end Cert.KernelIdeal.Coll

end
-- ==== Proof.KernelIdeal.Ops.lean ====
/-
  One rule for each single effect of the kernel that stays on its own device: the copies into and out of
  the w slots and the comm slots, their waits, the loads and the stores.
-/
module

public import proofs.«01_k».proof.Proof.KernelIdeal.Sched

@[expose] public section

set_option maxRecDepth 65536

noncomputable section

namespace Cert.KernelIdeal.Coll

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal Cert.KernelIdeal.Gen

variable {F : FTy → Type} [FloatOps F]

local notation "𝕄" => MT nD τ sig Unit (Elt F) ℕ UU ℕ

/-- No loop needs a variant. -/
abbrev 𝒱₀ : Variants := Variants.none

/-- Device `c` runs `p` to `Q`. -/
abbrev WP {α : Type} (c : Dev nD) (p : TC F α) (Q : α → sProp 𝕄) : sProp 𝕄 :=
  wp frame (wpE (defs₀ (F := F)) 𝒱₀ (c : Thread nD τ) none) Set.univ p Q

/-- Device `c` owes the payments `l`. -/
def Ow (c : Dev nD) (l : List (Dev nD × CK)) : sProp 𝕄 := iprop(∃ V, owes (c : Thread nD τ) (due l) V)

/-- A rule for an effect, at a program that ends with it. -/
theorem ends {α : Type} {c : Dev nD} {A B : sProp 𝕄} {a : α} {Q : α → sProp 𝕄} {p : TC F α}
    (h : A ⊢ iprop((B -∗ WP c (.ret a) Q) -∗ WP c p Q)) : A ⊢ iprop((B -∗ Q a) -∗ WP c p Q) := by
  iintro HA Hk
  iapply h $$ HA
  iintro HB
  unfold WP
  rw [wp_ret]
  imodintro
  iapply Hk; iexact HB

/-- The rows and columns of a row chunk of a w slot. -/
def chW (s : Fin 2) (j : Fin 4) : Finset S2x4096x1024.Idx := box (s := S2x4096x1024) ![s.val, 1024 * j.val, 0] S1x1024x1024.size
/-- A row chunk of a finished tile in a w slot. -/
def chO (s : Fin 2) (j : Fin 4) : Finset S2x4096x1024.Idx := box (s := S2x4096x1024) ![s.val, 256 * j.val, 0] S1x256x1024.size
/-- The part of a w slot a finished tile fills. -/
def topW (s : Fin 2) : Finset S2x4096x1024.Idx := box (s := S2x4096x1024) ![s.val, 0, 0] S1x1024x1024.size
/-- A row chunk of comm slot `2 + s`. -/
def chC (s : Fin 2) (j : Fin 4) : Finset S4x1024x1024.Idx := box (s := S4x1024x1024) ![2 + s.val, 256 * j.val, 0] S1x256x1024.size
/-- A row chunk of a tile of the stage array or the result. -/
def chS (e : Dev nD) (h : Fin 2) (j : Fin 4) : Finset S4096x2048.Idx := box (s := S4096x2048) ![1024 * e.val + 256 * j.val, 1024 * h.val] S256x1024.size
/-- A row chunk of a tile of w. -/
def chA (d : Dev nD) (h : Fin 2) (j : Fin 4) : Finset S4096x8192.Idx := box (s := S4096x8192) ![1024 * j.val, 2048 * d.val + 1024 * h.val] S1024x1024.size

/-- A tile of w spread over the w slots. -/
def wG (Y : Vec F S1x4096x1024 .f32) : Vec F S2x4096x1024 .f32 := fun i => Y (ix3 0 (i 1) (i 2))

section Rules
variable (W : Dev nD → Vec F S4096x8192 .f32) (X : Dev nD → Vec F S1024x4096 .f32) (c : Dev nD)

/-- The share of w that the copies into chunk `j` of slot `h` read. -/
def wShare (h : Fin 2) (j : Fin 4) : PosShare TreeShare := Transfers.shareTok fullShare 8 ⟨4 * h.val + j.val, by omega⟩

/-- The amounts of the local copies. -/
abbrev NW : ℕ := (mW 0 0).view.dmaCredit
/-- The amount of a quarter of a result tile. -/
abbrev NO : ℕ := (mR (offA 0 0 (BitVec.ofNat 32 (0 : Fin 4).val) (BitVec.ofNat 32 (256 * (0 : Fin 4).val))) (offA_inb 0 0 0 0)).view.dmaCredit
/-- The amount of a quarter of an arrived tile. -/
abbrev NI : ℕ := (mCi 0 0).view.dmaCredit

/-- Chunk `j` of w slot `h` idle: its semaphore at zero, and a share of w. -/
def wOff (h : Fin 2) (j : Fin 4) : sProp 𝕄 := iprop(semVal ((c : Thread nD τ), SemLoc.dma (semW h j)) 0 ∗ ptA c Finset.univ (wShare h j) (W c))
/-- The same chunk filling with its part of the tile for device `fw c a`. -/
def wOn (a : Fin 4) (h : Fin 2) (j : Fin 4) : sProp 𝕄 :=
  iprop(Transfers.Flight EC (c : Thread nD τ) (.dma (semW h j)) () NW iprop(ptW c (chW h j) (wG (wTile W c (fw c a) h)) ∗ ptA c (chA (fw c a) h j) (wShare h j) (W c))
    ∗ ptA c (Finset.univ \ chA (fw c a) h j) (wShare h j) (W c))

/-- What a load of a quarter of a w tile writes. -/
theorem copied_W (a : Fin 4) (h : Fin 2) (j : Fin 4) (f : Vec F S2x4096x1024 .f32) :
    ∀ i ∈ chW h j, ((mW h j).view.write (Elt F) f ((mA (offW c (BitVec.ofNat 32 a.val) (BitVec.ofNat 32 (1024 * h.val)) j) (offW_inb c a h j)).view.read (Elt F) (W c)) Finset.univ : Vec F S2x4096x1024 .f32) i
      = wG (wTile W c (fw c a) h) i := by
  intro i hi
  have h1 : (i 1).val < 4096 := (i 1).isLt
  have h2 : (i 2).val < 1024 := (i 2).isLt
  have h3 : (fw c a).val < 4 := (fw c a).isLt
  refine (copy_W _ _ h j f (W c) i hi (ix2 (i 1) ⟨2048 * (fw c a).val + 1024 * h.val + (i 2).val, by have := h.isLt; omega⟩) ?_ ?_).trans ?_
  · rw [offW_eq]; exact Nat.add_comm _ _
  · rw [offW_eq]; rfl
  · rfl

/-- Starting the load of a quarter of a w tile. -/
theorem wp_wOne (a : Fin 4) (h : Fin 2) (j : Fin 4) (f : Vec F S2x4096x1024 .f32) (Q : PUnit → sProp 𝕄) :
    iprop(wOff W c h j ∗ ptW c (chW h j) f) ⊢ iprop((wOn W c a h j -∗ Q ⟨⟩) -∗ WP c (wOne c a h j) Q) := by
  unfold wOff wOn
  iintro ⟨⟨Hv, HA⟩, Hd⟩
  ihave HA' := (pointsTo_split_subset (Finset.subset_univ (chA (fw c a) h j))).1 $$ HA
  icases HA' with ⟨HA, HR⟩
  iintro Hk
  have hs : (mA (offW c (BitVec.ofNat 32 a.val) (BitVec.ofNat 32 (1024 * h.val)) j) (offW_inb c a h j)).view.set = chA (fw c a) h j :=
    (set_mA _ _).trans (congrArg (fun o => box (s := S4096x8192) o S1024x1024.size) (offW_eq c a h j))
  have key := Transfers.wp_dmaLocal (Q := Q) EC 𝒱₀ (c : Thread nD τ) none (defs := defs₀ (F := F)) (src := mA (offW c (BitVec.ofNat 32 a.val) (BitVec.ofNat 32 (1024 * h.val)) j) (offW_inb c a h j))
    (dst := mW h j) (via := .same) (sm := .dma (semW h j)) (hsrc := View.wordExact_bits rfl) (hdst := (View.wordExact_bits rfl).reshape _ _) (hsem := ⟨Or.inl rfl, trivial⟩)
    (k := .ret) (q := wShare h j) (fs := W c) (Sd := chW h j) (fd := f) () NW rfl (View.dmaCredit_pos _ (by decide)) (le_of_eq (set_mW h j))
  rw [hs] at key
  iapply (ends key) $$ [HA Hd Hv]
  · isplitl [HA]; · iexact HA
    isplitl [Hd]; · iexact Hd
    iexact Hv
  iintro Hf
  iapply Hk
  isplitl [Hf]
  · iapply (Transfers.Flight_mono ?_) $$ Hf
    exact sep_mono_left (Entails.of_eq (pointsTo_congr (copied_W W c a h j f)))
  · iexact HR

/-- Waiting for a quarter of a w tile. -/
theorem wp_wGot (a : Fin 4) (h : Fin 2) (j : Fin 4) (l : List (Dev nD × CK)) (hl : ∀ p ∈ l, 0 < lvK (some p.2)) (Q : PUnit → sProp 𝕄) :
    iprop(levAts L lv ∗ wOn W c a h j ∗ Ow c l)
      ⊢ iprop(((wOff W c h j ∗ ptW c (chW h j) (wG (wTile W c (fw c a) h)) ∗ Ow c l) -∗ Q ⟨⟩) -∗ WP c (wGot c a h j) Q) := by
  unfold wOff wOn Ow
  iintro ⟨#HL, ⟨Hf, HR⟩, ⟨%V, HO⟩⟩ Hk
  have key := Transfers.wp_waitLocalO (Q := Q) EC 𝒱₀ (c : Thread nD τ) none (defs := defs₀ (F := F)) (srcw := mA (offW c (BitVec.ofNat 32 a.val) (BitVec.ofNat 32 (1024 * h.val)) j) (offW_inb c a h j))
    (dstw := mW h j) (sem := semW h j) (hsrc := View.wordExact_bits rfl) (hdst := (View.wordExact_bits rfl).reshape _ _) (k := .ret) () (N := NW) rfl
    (D := iprop(ptW c (chW h j) (wG (wTile W c (fw c a) h)) ∗ ptA c (chA (fw c a) h j) (wShare h j) (W c))) (O := due l) (W := V)
  iapply (ends key) $$ [Hf HO]
  · isplitl [Hf]; · iexact Hf
    isplitl [HO]; · iexact HO
    iapply (may c (.dma (semW h j)) l (by rw [dec_W]; exact hl)); iexact HL
  iintro ⟨⟨HW, HA⟩, Hv, HO⟩
  iapply Hk
  isplitl [Hv HA HR]
  · isplitl [Hv]; · iexact Hv
    iapply (pointsTo_split_subset (Finset.subset_univ (chA (fw c a) h j))).2
    isplitl [HA]; · iexact HA
    iexact HR
  isplitl [HW]; · iexact HW
  iexists _; iexact HO

/-! ## Out of the w slots, into the comm slots -/

/-- A tile spread over the upper rows of the w slots. -/
def wT (Y : FVec F S1x1024x1024 .f32) : Vec F S2x4096x1024 .f32 := fun i => Y (ix3 0 ⟨(i 1).val % 1024, Nat.mod_lt _ (by decide)⟩ (i 2))

/-- Where an index inside a tile lies. -/
theorem in_tile (e : Dev nD) (h : Fin 2) (i : S4096x2048.Idx) (h0 : 1024 * e.val ≤ (i 0).val) (h0' : (i 0).val < 1024 * e.val + 1024)
    (h1 : 1024 * h.val ≤ (i 1).val) (h1' : (i 1).val < 1024 * h.val + 1024) :
    rowD i = e ∧ colH i = h ∧ inTile i = ix3 0 ⟨(i 0).val - 1024 * e.val, by omega⟩ ⟨(i 1).val - 1024 * h.val, by omega⟩ := by
  refine ⟨Fin.ext ?_, Fin.ext ?_, ext3 rfl ?_ ?_⟩
  · show (i 0).val / 1024 = e.val; omega
  · show (i 1).val / 1024 = h.val; omega
  · show (i 0).val % 1024 = (i 0).val - 1024 * e.val; omega
  · show (i 1).val % 1024 = (i 1).val - 1024 * h.val; omega

/-- The printed offsets of a row chunk. -/
abbrev oA (w : Fin 4) (h : Fin 2) (j : Fin 4) : Fin 2 → Nat := offA c h (BitVec.ofNat 32 w.val) (BitVec.ofNat 32 (256 * j.val))

/-- Where a quarter of a tile begins. -/
theorem oA_eq (w : Fin 4) (h : Fin 2) (j : Fin 4) : oA c w h j = ![1024 * (bk c w).val + 256 * j.val, 1024 * h.val] := offA_eq c h w j

/-- The indices of a quarter of a result tile. -/
theorem set_oR (w : Fin 4) (h : Fin 2) (j : Fin 4) : (mR (oA c w h j) (offA_inb c h w j)).view.set = chS (bk c w) h j :=
  (set_mR _ _).trans (congrArg (fun o => box (s := S4096x2048) o S256x1024.size) (offA_eq c h w j))
/-- The indices of a quarter of a stage tile. -/
theorem set_oS (w : Fin 4) (h : Fin 2) (j : Fin 4) : (mSi (oA c w h j) (offA_inb c h w j)).view.set = chS (bk c w) h j :=
  (set_mSi _ _).trans (congrArg (fun o => box (s := S4096x2048) o S256x1024.size) (offA_eq c h w j))

/-- Chunk `j` of half `h` on its way to the result. -/
def oOn (w : Fin 4) (h : Fin 2) (j : Fin 4) : sProp 𝕄 :=
  Transfers.Flight EC (c : Thread nD τ) (.dma (semO h j)) () NO iprop(ptR c (chS (bk c w) h j) (outAll X W c) ∗ ptW c (chO h j) (wT (outT X W (bk c w) c h)))
/-- Its semaphore at zero. -/
def oOff (h : Fin 2) (j : Fin 4) : sProp 𝕄 := semVal ((c : Thread nD τ), SemLoc.dma (semO h j)) 0
/-- Chunk `j` of half `h` on its way into its comm slot. -/
def iOn (w : Fin 4) (h : Fin 2) (j : Fin 4) : sProp 𝕄 :=
  Transfers.Flight EC (c : Thread nD τ) (.dma (semI h j)) () NI iprop(ptC c (chC h j) (cG (tl X W (bk c w) c h)) ∗ ptS c (chS (bk c w) h j) (sG (tl X W (bk c w) c h)))
/-- A load's semaphore at zero. -/
def iOff (h : Fin 2) (j : Fin 4) : sProp 𝕄 := semVal ((c : Thread nD τ), SemLoc.dma (semI h j)) 0

/-- What writing a quarter of a finished tile leaves in the result. -/
theorem copied_R (w : Fin 4) (h : Fin 2) (j : Fin 4) (f : Vec F S4096x2048 .f32) :
    ∀ i ∈ chS (bk c w) h j, ((mR (oA c w h j) (offA_inb c h w j)).view.write (Elt F) f ((mO h j).view.read (Elt F) (wT (outT X W (bk c w) c h))) Finset.univ : Vec F S4096x2048 .f32) i
      = outAll X W c i := by
  intro i hi
  obtain ⟨⟨a0, a1⟩, a2, a3⟩ := mem_box2.mp hi
  have hj := j.isLt
  have h3 : (bk c w).val < 4 := (bk c w).isLt
  obtain ⟨e1, e2, e3⟩ := in_tile (bk c w) h i (by omega) (by omega) (by omega) (by omega)
  refine (copy_R _ _ h j f (wT (outT X W (bk c w) c h)) i (by rw [oA_eq]; exact hi)
    (ix3 h ⟨(i 0).val - 1024 * (bk c w).val, by omega⟩ ⟨(i 1).val - 1024 * h.val, by omega⟩) rfl ?_ ?_).trans ?_
  · rw [oA_eq]; show (i 0).val - 1024 * (bk c w).val + (1024 * (bk c w).val + 256 * j.val) = _; omega
  · rw [oA_eq]; show (i 1).val - 1024 * h.val + 1024 * h.val = _; omega
  · unfold outAll wT
    rw [e1, e2, e3]
    refine congrArg _ (ext3 rfl ?_ rfl)
    show ((i 0).val - 1024 * (bk c w).val) % 1024 = _
    exact Nat.mod_eq_of_lt (by omega)

/-- What loading a quarter of an arrived tile leaves in its slot. -/
theorem copied_I (w : Fin 4) (h : Fin 2) (j : Fin 4) (f : Vec F S4x1024x1024 .bf16) :
    ∀ i ∈ chC h j, ((mCi h j).view.write (Elt F) f ((mSi (oA c w h j) (offA_inb c h w j)).view.read (Elt F) (sG (tl X W (bk c w) c h))) Finset.univ : Vec F S4x1024x1024 .bf16) i
      = cG (tl X W (bk c w) c h) i := by
  intro i hi
  obtain ⟨-, ⟨a0, a1⟩, a2, a3⟩ := mem_box3.mp hi
  have hj := j.isLt
  have hh := h.isLt
  have h3 : (bk c w).val < 4 := (bk c w).isLt
  refine (copy_I _ _ h j f (sG (tl X W (bk c w) c h)) i hi
    (ix2 ⟨1024 * (bk c w).val + (i 1).val, by omega⟩ ⟨1024 * h.val + (i 2).val, by omega⟩) ?_ ?_).trans ?_
  · rw [oA_eq]; show 1024 * (bk c w).val + (i 1).val + 256 * j.val = 1024 * (bk c w).val + 256 * j.val + (i 1).val; omega
  · rw [oA_eq]; rfl
  · unfold sG cG
    refine congrArg _ (ext3 rfl ?_ ?_)
    · show (1024 * (bk c w).val + (i 1).val) % 1024 = (i 1).val; omega
    · show (1024 * h.val + (i 2).val) % 1024 = (i 2).val; omega

/-- Starting to write a quarter of a finished tile. -/
theorem wp_oOne (w : Fin 4) (h : Fin 2) (j : Fin 4) (f : Vec F S4096x2048 .f32) (Q : PUnit → sProp 𝕄) :
    iprop(oOff c h j ∗ ptW c (chO h j) (wT (outT X W (bk c w) c h)) ∗ ptR c (chS (bk c w) h j) f) ⊢ iprop((oOn W X c w h j -∗ Q ⟨⟩) -∗ WP c (oOne c w h j) Q) := by
  unfold oOff oOn
  iintro ⟨Hv, Hs, Hd⟩ Hk
  have key := Transfers.wp_dmaLocal (Q := Q) EC 𝒱₀ (c : Thread nD τ) none (defs := defs₀ (F := F)) (src := mO h j)
    (dst := mR (oA c w h j) (offA_inb c h w j)) (via := .same) (sm := .dma (semO h j)) (hsrc := (View.wordExact_bits rfl).reshape _ _) (hdst := View.wordExact_bits rfl) (hsem := ⟨Or.inl rfl, trivial⟩)
    (k := .ret) (q := fullShare) (fs := wT (outT X W (bk c w) c h)) (Sd := chS (bk c w) h j) (fd := f) () NO rfl (View.dmaCredit_pos _ (by decide)) (le_of_eq (set_oR c w h j))
  rw [show (mO h j).view.set = chO h j from set_mO h j] at key
  iapply (ends key) $$ [Hs Hd Hv]
  · isplitl [Hs]; · iexact Hs
    isplitl [Hd]; · iexact Hd
    iexact Hv
  iintro Hf
  iapply Hk
  iapply (Transfers.Flight_mono ?_) $$ Hf
  exact sep_mono_left (Entails.of_eq (pointsTo_congr (copied_R W X c w h j f)))

/-- Starting to load a quarter of an arrived tile. -/
theorem wp_iOne (w : Fin 4) (h : Fin 2) (j : Fin 4) (f : Vec F S4x1024x1024 .bf16) (Q : PUnit → sProp 𝕄) :
    iprop(iOff c h j ∗ ptS c (chS (bk c w) h j) (sG (tl X W (bk c w) c h)) ∗ ptC c (chC h j) f) ⊢ iprop((iOn W X c w h j -∗ Q ⟨⟩) -∗ WP c (iOne c w h j) Q) := by
  unfold iOff iOn
  iintro ⟨Hv, Hs, Hd⟩ Hk
  have key := Transfers.wp_dmaLocal (Q := Q) EC 𝒱₀ (c : Thread nD τ) none (defs := defs₀ (F := F)) (src := mSi (oA c w h j) (offA_inb c h w j))
    (dst := mCi h j) (via := .same) (sm := .dma (semI h j)) (hsrc := offA_words c h w j) (hdst := mCi_words h j) (hsem := ⟨Or.inl rfl, trivial⟩)
    (k := .ret) (q := fullShare) (fs := sG (tl X W (bk c w) c h)) (Sd := chC h j) (fd := f) () NI rfl (View.dmaCredit_pos _ (by decide)) (le_of_eq (set_mCi h j))
  rw [show (mSi (oA c w h j) (offA_inb c h w j)).view.set = chS (bk c w) h j from set_oS c w h j] at key
  iapply (ends key) $$ [Hs Hd Hv]
  · isplitl [Hs]; · iexact Hs
    isplitl [Hd]; · iexact Hd
    iexact Hv
  iintro Hf
  iapply Hk
  iapply (Transfers.Flight_mono ?_) $$ Hf
  exact sep_mono_left (Entails.of_eq (pointsTo_congr (copied_I W X c w h j f)))

/-- Waiting for a quarter of a finished tile to be written. -/
theorem wp_oGot (w : Fin 4) (h : Fin 2) (j : Fin 4) (Q : PUnit → sProp 𝕄) :
    iprop(oOn W X c w h j ∗ Ow c [])
      ⊢ iprop(((oOff c h j ∗ ptR c (chS (bk c w) h j) (outAll X W c) ∗ ptW c (chO h j) (wT (outT X W (bk c w) c h)) ∗ Ow c []) -∗ Q ⟨⟩) -∗ WP c (oGot c w h j) Q) := by
  unfold oOff oOn Ow
  iintro ⟨Hf, ⟨%V, HO⟩⟩ Hk
  have key := Transfers.wp_waitLocalO (Q := Q) EC 𝒱₀ (c : Thread nD τ) none (defs := defs₀ (F := F)) (srcw := mO h j)
    (dstw := mR (oA c w h j) (offA_inb c h w j)) (sem := semO h j) (hsrc := (View.wordExact_bits rfl).reshape _ _) (hdst := View.wordExact_bits rfl) (k := .ret) () (N := NO) rfl
    (D := iprop(ptR c (chS (bk c w) h j) (outAll X W c) ∗ ptW c (chO h j) (wT (outT X W (bk c w) c h)))) (O := due []) (W := V)
  iapply (ends key) $$ [Hf HO]
  · isplitl [Hf]; · iexact Hf
    isplitl [HO]; · iexact HO
    rw [show due [] = 0 from rfl, MayWait_zero]; iempintro
  iintro ⟨⟨HW, HA⟩, Hv, HO⟩
  iapply Hk
  isplitl [Hv]; · iexact Hv
  isplitl [HW]; · iexact HW
  isplitl [HA]; · iexact HA
  iexists _; iexact HO

/-- Waiting for a quarter of an arrived tile. -/
theorem wp_iGot (w : Fin 4) (h : Fin 2) (j : Fin 4) (Q : PUnit → sProp 𝕄) :
    iprop(iOn W X c w h j ∗ Ow c [])
      ⊢ iprop(((iOff c h j ∗ ptC c (chC h j) (cG (tl X W (bk c w) c h)) ∗ ptS c (chS (bk c w) h j) (sG (tl X W (bk c w) c h)) ∗ Ow c []) -∗ Q ⟨⟩) -∗ WP c (iGot c w h j) Q) := by
  unfold iOff iOn Ow
  iintro ⟨Hf, ⟨%V, HO⟩⟩ Hk
  have key := Transfers.wp_waitLocalO (Q := Q) EC 𝒱₀ (c : Thread nD τ) none (defs := defs₀ (F := F)) (srcw := mSi (oA c w h j) (offA_inb c h w j))
    (dstw := mCi h j) (sem := semI h j) (hsrc := offA_words c h w j) (hdst := mCi_words h j) (k := .ret) () (N := NI) rfl
    (D := iprop(ptC c (chC h j) (cG (tl X W (bk c w) c h)) ∗ ptS c (chS (bk c w) h j) (sG (tl X W (bk c w) c h)))) (O := due []) (W := V)
  iapply (ends key) $$ [Hf HO]
  · isplitl [Hf]; · iexact Hf
    isplitl [HO]; · iexact HO
    rw [show due [] = 0 from rfl, MayWait_zero]; iempintro
  iintro ⟨⟨HW, HA⟩, Hv, HO⟩
  iapply Hk
  isplitl [Hv]; · iexact Hv
  isplitl [HW]; · iexact HW
  isplitl [HA]; · iexact HA
  iexists _; iexact HO

/-! ## Loads and stores -/

/-- Loading the staged x. -/
theorem wp_ldX (f : Vec F S1024x4096 .f32) (Q : Vec F S1024x4096 .f32 → sProp 𝕄) :
    ptX c f ⊢ iprop((ptX c f -∗ Q f) -∗ WP c ldX Q) := by
  iintro HX Hk
  unfold ldX Prog.lift
  iapply (wp_load 𝒱₀ (c : Thread nD τ) none Set.univ (m := mX) (S := Finset.univ) (Finset.subset_univ _)) $$ HX
  iintro HX
  rw [wp_ret]; imodintro
  have e : mX.view.readAt (Elt F) (Rect.unit (s := S1024x4096) ![0, 0] S1024x4096.size inb_S1024x4096_S1024x4096_0_0).toLoadRect f = f :=
    Memref.readAt_unit_zero (Elt F) cc0_stg0_0 (funext fun a => by fin_cases a <;> rfl) _ f
  rw [e]
  iapply Hk; iexact HX

/-- Loading a w tile. -/
theorem wp_ldW (s : Fin 2) (Y : Vec F S1x4096x1024 .f32) (Q : Vec F S1x4096x1024 .f32 → sProp 𝕄) :
    ptW c (slotW s) (wG Y) ⊢ iprop((ptW c (slotW s) (wG Y) -∗ Q Y) -∗ WP c (ldW s) Q) := by
  iintro H Hk
  unfold ldW Prog.lift
  iapply (wp_load_rect 𝒱₀ (c : Thread nD τ) none Set.univ (m := aW) (r := rW s) (S := slotW s) (le_of_eq (set_rW s))) $$ H
  iintro H
  rw [wp_ret]; imodintro
  have e : ((aW.access (rW s)).read (Elt F) (wG Y) : Vec F S1x4096x1024 .f32) = Y := funext fun i => by
    rw [read_W]; exact congrArg Y (ext3 (by have : (i 0).val < 1 := (i 0).isLt; show 0 = (i 0).val; omega) rfl rfl)
  rw [e]
  iapply Hk; iexact H

/-- Loading a comm slot. -/
theorem wp_ldC (q : Fin 4) (f : Vec F S4x1024x1024 .bf16) (Q : Vec F S1x1024x1024 .bf16 → sProp 𝕄) :
    ptC c (slotC q) f ⊢ iprop((ptC c (slotC q) f -∗ Q ((aC.access (rC q)).read (Elt F) f)) -∗ WP c (ldC q) Q) := by
  iintro H Hk
  unfold ldC Prog.lift
  iapply (wp_load_rect 𝒱₀ (c : Thread nD τ) none Set.univ (m := aC) (r := rC q) (S := slotC q) (le_of_eq (set_rC q))) $$ H
  iintro H
  rw [wp_ret]; imodintro
  iapply Hk; iexact H

/-- A comm slot that holds a tile reads as that tile. -/
theorem read_cG (q : Fin 4) (Y : FVec F S1x1024x1024 .bf16) : ((aC.access (rC q)).read (Elt F) (cG Y) : Vec F S1x1024x1024 .bf16) = Y :=
  funext fun i => by rw [read_C]; exact congrArg Y (ext3 (by have : (i 0).val < 1 := (i 0).isLt; show 0 = (i 0).val; omega) rfl rfl)

/-- What storing a tile leaves in a comm slot. -/
theorem stored_C (q : Fin 4) (f : Vec F S4x1024x1024 .bf16) (v : FVec F S1x1024x1024 .bf16) :
    ∀ i ∈ slotC q, ((aC.access (rC q)).write (Elt F) f v Finset.univ : Vec F S4x1024x1024 .bf16) i = cG v i :=
  fun i hi => write_C q f v i hi

/-- Storing a tile into a comm slot. -/
theorem wp_stC (q : Fin 4) (v : FVec F S1x1024x1024 .bf16) (Q : PUnit → sProp 𝕄) :
    iprop(∃ f, ptC (F := F) c (slotC q) f) ⊢ iprop((ptC c (slotC q) (cG v) -∗ Q ⟨⟩) -∗ WP c (stC q v) Q) := by
  iintro ⟨%f, H⟩ Hk
  unfold stC WP
  rw [wp_bind]
  iapply (wp_ldC c q f) $$ H
  iintro H
  unfold Prog.lift
  iapply (wp_store 𝒱₀ (c : Thread nD τ) none Set.univ (m := aC) (r := rC q) (Mk := Finset.univ) (S := slotC q) (le_of_eq (set_rC q))) $$ H
  iintro H
  rw [wp_ret]; imodintro
  iapply Hk
  iapply (Entails.of_eq (pointsTo_congr (stored_C q f v))) $$ H

/-- What storing a finished tile leaves in a w slot. -/
theorem stored_W (s : Fin 2) (f : Vec F S2x4096x1024 .f32) (v : FVec F S1x1024x1024 .f32) :
    ∀ i ∈ topW s, ((aW.access (rTop s)).write (Elt F) f v Finset.univ : Vec F S2x4096x1024 .f32) i = wT v i := by
  intro i hi
  obtain ⟨-, ⟨a0, a1⟩, -⟩ := mem_box3.mp hi
  exact write_Top s f v i hi (ix3 0 ⟨(i 1).val % 1024, Nat.mod_lt _ (by decide)⟩ (i 2)) (Nat.mod_eq_of_lt (by omega)) rfl

/-- A load and a store of a w slot's upper rows. -/
theorem wp_stW (s : Fin 2) (v : FVec F S1x1024x1024 .f32) (Q : PUnit → sProp 𝕄) :
    iprop(∃ f, ptW (F := F) c (topW s) f) ⊢ iprop((ptW c (topW s) (wT v) -∗ Q ⟨⟩) -∗ WP c (stW s v) Q) := by
  iintro ⟨%f, H⟩ Hk
  unfold stW WP
  rw [wp_bind]
  unfold Prog.lift
  iapply (wp_load_rect 𝒱₀ (c : Thread nD τ) none Set.univ (m := aW) (r := rTop s) (S := topW s) (le_of_eq (set_rTop s))) $$ H
  iintro H
  rw [wp_ret]; imodintro
  iapply (wp_store 𝒱₀ (c : Thread nD τ) none Set.univ (m := aW) (r := rTop s) (Mk := Finset.univ) (S := topW s) (le_of_eq (set_rTop s))) $$ H
  iintro H
  rw [wp_ret]; imodintro
  iapply Hk
  iapply (Entails.of_eq (pointsTo_congr (stored_W s f v))) $$ H

/-- Finishing a tile: scaled, rounded, scaled back and stored. -/
theorem wp_quant (s : Fin 2) (q : Fin 4) (sc iv : F .f32) (Y : FVec F S1x1024x1024 .bf16) (Q : PUnit → sProp 𝕄) :
    iprop(ptC c (slotC q) (cG Y) ∗ ∃ f, ptW (F := F) c (topW s) f)
      ⊢ iprop(((ptC c (slotC q) (cG Y) ∗ ptW c (topW s) (wT (k0_pay33 sc iv Y))) -∗ Q ⟨⟩) -∗ WP c (quant s q sc iv) Q) := by
  iintro ⟨HC, HW⟩ Hk
  unfold quant WP
  rw [wp_bind]
  iapply (wp_ldC c q (cG Y)) $$ HC
  iintro HC
  rw [read_cG]
  iapply (wp_stW c s (k0_pay33 sc iv Y)) $$ HW
  iintro H
  iapply Hk
  isplitl [HC]; · iexact HC
  iexact H

end Rules

end Cert.KernelIdeal.Coll

end
-- ==== Proof.KernelIdeal.Talk.lean ====
/-
  One rule for each effect that two devices share: the barrier, a tile sent and arriving, a maximum sent
  and arriving.
-/
module

public import proofs.«01_k».proof.Proof.KernelIdeal.Ops

@[expose] public section

set_option maxRecDepth 65536

noncomputable section

namespace Cert.KernelIdeal.Coll

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal Cert.KernelIdeal.Gen

variable {F : FTy → Type} [FloatOps F]

local notation "𝕄" => MT nD τ sig Unit (Elt F) ℕ UU ℕ

section Rules
variable (X : Dev nD → Vec F S1024x4096 .f32) (W : Dev nD → Vec F S4096x8192 .f32) (K : Dev nD × CK → ℕ) (c : Dev nD)

/-- What every device knows of one shared cell: it is kept by the schedule, and in round 0. -/
def known (p : Dev nD × CK) : sProp 𝕄 := iprop(cellInv ER (sched X W) (K p) (cell p.1 p.2) ∗ reached ER (cell p.1 p.2) 0)
/-- What is known of a cell may be copied. -/
instance known_persistent (p : Dev nD × CK) : BI.Persistent (known X W K p) := by unfold known; infer_instance

/-- What every device knows: all the shared cells, and the levels. -/
def Ctx : sProp 𝕄 := iprop((bigSep Finset.univ fun p : Dev nD × CK => known X W K p) ∗ levAts L lv)
/-- What is known of all cells may be copied. -/
instance ctx_persistent : BI.Persistent (Ctx X W K) := by unfold Ctx; infer_instance

/-- What is known of all cells is known of each. -/
theorem ctx_known (p : Dev nD × CK) : Ctx X W K ⊢ known X W K p := by
  unfold Ctx
  iintro ⟨H, -⟩
  iapply (show (bigSep Finset.univ fun p : Dev nD × CK => known X W K p) ⊢ known X W K p from bigSep_elim (Finset.mem_univ p)) $$ H
/-- Each cell's invariant is known. -/
theorem ctx_inv (d : Dev nD) (k : CK) : Ctx X W K ⊢ cellInv ER (sched X W) (K (d, k)) (cell d k) := by
  refine (ctx_known X W K (d, k)).trans ?_
  unfold known
  iintro ⟨H, -⟩
  iexact H
/-- Each cell's first round has begun. -/
theorem ctx_reached (d : Dev nD) (k : CK) : Ctx X W K ⊢ reached ER (cell d k) 0 := by
  refine (ctx_known X W K (d, k)).trans ?_
  unfold known
  iintro ⟨-, H⟩
  iexact H
/-- The levels are known. -/
theorem ctx_lev : Ctx X W K ⊢ levAts L lv := by
  unfold Ctx
  iintro ⟨-, H⟩
  iexact H

/-- A wait that takes a whole round of one of the device's own cells. -/
theorem wp_take (k : CK) (n : ℕ) (hn : (dut k).card * amt k = n) (p : TpuEff nD τ sig (Elt F) Λ₀ .tc PUnit)
    (hw : ∀ G : PUnit → sProp 𝕄, wpE (defs₀ (F := F)) 𝒱₀ (c : Thread nD τ) none Set.univ p G = waitSpec (c : Thread nD τ) Set.univ (csem k) n G)
    (l : List (Dev nD × CK)) (hl : ∀ x ∈ l, lvK (some k) < lvK (some x.2)) (Q : PUnit → sProp 𝕄) :
    iprop(Ctx X W K ∗ cred (tallyAt (cell c k) () n) ∗ atPos ER (cell c k) 0 ∅ 0 ∗ Ow c l)
      ⊢ iprop((((bigSep (dut k) fun d => pay X W c d k) ∗ atPos ER (cell c k) (0 + 1) ∅ 0 ∗ Ow c l) -∗ Q ⟨⟩) -∗ WP c (Prog.lift p) Q) := by
  unfold Ow
  iintro ⟨#HC, Hc, Ha, ⟨%V, HO⟩⟩ Hk
  unfold Prog.lift
  iapply (ends (Rounds.wp_wait_rest_token (Q := Q) 𝒱₀ ER (sched X W) (c : Thread nD τ) none (κ := K (c, k)) hw (Set.mem_univ _) () (O := due l) (W := V) (R := 0) (m := 0) (T := ∅)
      (k := .ret) (by rw [Nat.zero_add, expect_cell, hn]))) $$ [Hc Ha HO]
  · isplitr; · iapply (ctx_inv X W K c k); iexact HC
    isplitl [Hc]; · iexact Hc
    isplitl [HO]; · iexact HO
    isplitr
    · iapply (may c (csem k) l (by rw [dec_csem]; exact hl))
      iapply (ctx_lev X W K); iexact HC
    iexact Ha
  iintro ⟨HO, Ha, -, Hp⟩
  iapply Hk
  isplitl [Hp]
  · iapply (Entails.of_eq (rest_cell X W c k)); iexact Hp
  isplitl [Ha]; · iexact Ha
  iexists _; iexact HO

/-- The same where the round has one duty. -/
theorem wp_take1 (k : CK) (n : ℕ) (hk : dut k = {0}) (hn : amt k = n) (p : TpuEff nD τ sig (Elt F) Λ₀ .tc PUnit)
    (hw : ∀ G : PUnit → sProp 𝕄, wpE (defs₀ (F := F)) 𝒱₀ (c : Thread nD τ) none Set.univ p G = waitSpec (c : Thread nD τ) Set.univ (csem k) n G)
    (l : List (Dev nD × CK)) (hl : ∀ x ∈ l, lvK (some k) < lvK (some x.2)) (Q : PUnit → sProp 𝕄) :
    iprop(Ctx X W K ∗ cred (tallyAt (cell c k) () n) ∗ atPos ER (cell c k) 0 ∅ 0 ∗ Ow c l)
      ⊢ iprop(((pay X W c 0 k ∗ atPos ER (cell c k) (0 + 1) ∅ 0 ∗ Ow c l) -∗ Q ⟨⟩) -∗ WP c (Prog.lift p) Q) := by
  have key := wp_take X W K c k n (by rw [hk, hn]; exact Nat.one_mul n) p hw l hl Q
  rw [hk, bigSep_singleton] at key
  exact key

/-- One signal of the barrier. -/
theorem wp_sig (i : Fin 3) (l : List (Dev nD × CK)) (Q : PUnit → sProp 𝕄) :
    iprop(Ctx X W K ∗ Ow c ((fw c i.castSucc, .bar) :: l) ∗ dutyTok ER (cell (fw c i.castSucc) .bar) 0 i ∗ barPay (F := F) c (fw c i.castSucc))
      ⊢ iprop((Ow c l -∗ Q ⟨⟩) -∗ WP c (semSignalWord (sigDev c i) semB 1#32) Q) := by
  unfold Ow
  rw [sigDev_eq]
  iintro ⟨#HC, ⟨%V, HO⟩, Ht, Hp⟩ Hk
  unfold semSignalWord
  iapply (ends (Rounds.wp_signal (Q := Q) 𝒱₀ ER (sched X W) (c : Thread nD τ) none (dst := (fw c i.castSucc : Thread nD τ)) (sem := semB) (κ := K (fw c i.castSucc, .bar)) (r := 0)
      (d := i) (k := .ret) (by rw [show ((fw c i.castSucc : Thread nD τ), SemLoc.reg semB) = cell (fw c i.castSucc) .bar from rfl, duties_cell]; exact Finset.mem_univ _)
      ((amount_cell X W (fw c i.castSucc) .bar 0 i).trans (by decide)) () (due l) rfl (W := V))) $$ [HO Ht Hp]
  · isplitr; · iapply (ctx_inv X W K (fw c i.castSucc) .bar); iexact HC
    isplitl [HO]; · iexact HO
    isplitl [Ht]; · iexact Ht
    isplitl [Hp]
    · iapply (Entails.of_eq (show (sched X W).payload ((fw c i.castSucc : Thread nD τ), SemLoc.reg semB) 0 i = pay X W (fw c i.castSucc) i .bar from payload_cell X W (fw c i.castSucc) .bar 0 i).symm)
      unfold pay
      rw [bk_fw]
      iexact Hp
    iapply (ctx_reached X W K (fw c i.castSucc) .bar); iexact HC
  iintro HO
  iapply Hk
  iexists _; iexact HO

/-- What the barrier hands over, from each of the three others. -/
theorem bar_pays : (bigSep (dut .bar) fun d => pay X W c d .bar)
    = (iprop(barPay (F := F) (fw c 0) c ∗ barPay (F := F) (fw c 1) c ∗ barPay (F := F) (fw c 2) c) : sProp 𝕄) := by
  rw [show dut .bar = Finset.univ from rfl, bigSep_univ_eq_bigSepL [(2 : Fin 3), 1, 0] (by decide) (by decide) (fun d : Fin 3 => pay X W c d .bar),
    bigSepL_cons_cons, bigSepL_cons_cons, bigSepL_singleton]
  have e : ∀ d : Fin 3, pay X W c d .bar = barPay (F := F) (bk c d.succ) c := fun _ => rfl
  rw [e, e, e, show bk c (Fin.succ 2) = fw c 0 from bk_rev c 0, show bk c (Fin.succ 1) = fw c 1 from bk_rev c 1, show bk c (Fin.succ 0) = fw c 2 from bk_rev c 2]
  rfl

/-- Waiting at the barrier: the places to be written are received. -/
theorem wp_barrier (l : List (Dev nD × CK)) (hl : ∀ x ∈ l, 1 < lvK (some x.2)) (Q : PUnit → sProp 𝕄) :
    iprop(Ctx X W K ∗ Ow c ((fw c 0, .bar) :: (fw c 1, .bar) :: (fw c 2, .bar) :: l)
        ∗ (dutyTok ER (cell (fw c 0) .bar) 0 0 ∗ barPay (F := F) c (fw c 0)) ∗ (dutyTok ER (cell (fw c 1) .bar) 0 1 ∗ barPay (F := F) c (fw c 1))
        ∗ (dutyTok ER (cell (fw c 2) .bar) 0 2 ∗ barPay (F := F) c (fw c 2))
        ∗ cred (tallyAt (cell c .bar) () 3) ∗ atPos ER (cell c .bar) 0 ∅ 0)
      ⊢ iprop(((Ow c l ∗ atPos ER (cell c .bar) (0 + 1) ∅ 0 ∗ barPay (F := F) (fw c 0) c ∗ barPay (F := F) (fw c 1) c ∗ barPay (F := F) (fw c 2) c) -∗ Q ⟨⟩)
        -∗ WP c (barrier c) Q) := by
  iintro ⟨#HC, HO, ⟨T0, P0⟩, ⟨T1, P1⟩, ⟨T2, P2⟩, Hc, Ha⟩ Hk
  unfold barrier WP
  simp only [wp_bind]
  iapply (wp_sig X W K c 0 _) $$ [HO T0 P0]
  · isplitr; · iexact HC
    isplitl [HO]; · iexact HO
    isplitl [T0]; · iexact T0
    iexact P0
  iintro HO
  iapply (wp_sig X W K c 1 _) $$ [HO T1 P1]
  · isplitr; · iexact HC
    isplitl [HO]; · iexact HO
    isplitl [T1]; · iexact T1
    iexact P1
  iintro HO
  iapply (wp_sig X W K c 2 _) $$ [HO T2 P2]
  · isplitr; · iexact HC
    isplitl [HO]; · iexact HO
    isplitl [T2]; · iexact T2
    iexact P2
  iintro HO
  iapply (wp_take X W K c .bar 3 (by decide) _ (wpE_semWait_eq 𝒱₀ (c : Thread nD τ) none Set.univ) l hl) $$ [HO Hc Ha]
  · isplitr; · iexact HC
    isplitl [Hc]; · iexact Hc
    isplitl [Ha]; · iexact Ha
    iexact HO
  iintro ⟨Hp, Ha, HO⟩
  iapply Hk
  isplitl [HO]; · iexact HO
  isplitl [Ha]; · iexact Ha
  iapply (Entails.of_eq (bar_pays X W c)) $$ Hp

/-! ## A tile sent, and arriving -/

/-- The indices of the own tile. -/
theorem set_S (h : Fin 2) : (mS (offS c h) (offS_inb c h)).view.set = tileS c h :=
  (set_mS _ _).trans (congrArg (fun o => box (s := S4096x2048) o S1024x1024.size) (offS_eq c h))

/-- What a send leaves in the receiver's stage array. -/
theorem copied_S (d : Dev nD) (h : Fin 2) (q : Fin 4) (f : Vec F S4096x2048 .bf16) :
    ∀ i ∈ tileS c h, ((mS (offS c h) (offS_inb c h)).view.write (Elt F) f ((mC q).view.read (Elt F) (cG (tl X W c d h))) Finset.univ : Vec F S4096x2048 .bf16) i
      = sG (tl X W c d h) i := by
  intro i hi
  obtain ⟨⟨a0, a1⟩, a2, a3⟩ := mem_box2.mp hi
  obtain ⟨e1, e2, e3⟩ := in_tile c h i (by omega) (by omega) (by omega) (by omega)
  refine (copy_S _ _ q f (cG (tl X W c d h)) i (by rw [offS_eq]; exact hi)
    (ix3 q ⟨(i 0).val - 1024 * c.val, by omega⟩ ⟨(i 1).val - 1024 * h.val, by omega⟩) rfl ?_ ?_).trans ?_
  · rw [offS_eq]; show (i 0).val - 1024 * c.val + 1024 * c.val = _; omega
  · rw [offS_eq]; show (i 1).val - 1024 * h.val + 1024 * h.val = _; omega
  · unfold sG cG
    rw [e3]

/-- Sending a tile to a named device. -/
theorem wp_sendTo (n : Dev nD) (w : Fin 3) (hn : n = fw c w.castSucc) (h : Fin 2) (q : Fin 4) (hq : q = sq w h)
    (hsc) (hsrc) (hdst) (hsem) (f : Vec F S4096x2048 .bf16) (l : List (Dev nD × CK)) (V : Waits sig Unit) (Q : PUnit → sProp 𝕄) :
    iprop(cellInv ER (sched X W) (K (c, .snd w h)) (cell c (.snd w h)) ∗ cellInv ER (sched X W) (K (fw c w.castSucc, .rcv w h)) (cell (fw c w.castSucc) (.rcv w h))
        ∗ ptC c (slotC q) (cG (tl X W c (fw c w.castSucc) h)) ∗ ptS (fw c w.castSucc) (tileS c h) f
        ∗ owes (c : Thread nD τ) (due ((fw c w.castSucc, .rcv w h) :: l)) V
        ∗ dutyTok ER (cell c (.snd w h)) 0 0 ∗ reached ER (cell c (.snd w h)) 0
        ∗ dutyTok ER (cell (fw c w.castSucc) (.rcv w h)) 0 0 ∗ reached ER (cell (fw c w.castSucc) (.rcv w h)) 0)
      ⊢ iprop(((cred (tallyAt (cell c (.snd w h)) () NT) ∗ owes (c : Thread nD τ) (due l) V) -∗ WP c (.ret ⟨⟩) Q)
          -∗ WP c (Prog.op (.enqueueDma (mC q) (.remote (Dev.tc n) (mS (offS c h) (offS_inb c h)) (.dma (semS (tn w h))) hsc) (.dma (semR w h)) hsrc hdst hsem) .ret) Q) := by
  subst hn hq
  have e1 : slotC (sq w h) = (mC (sq w h)).view.set := (set_mC _).symm
  have e2 : tileS c h = (mS (offS c h) (offS_inb c h)).view.set := (set_S c h).symm
  rw [e1, e2]
  exact Rounds.wp_send_pointsTo (Q := Q) 𝒱₀ ER (sched X W) (c : Thread nD τ) none (defs := defs₀ (F := F)) (c' := (fw c w.castSucc : Thread nD τ)) (src := mC (sq w h)) (dst := mS (offS c h) (offS_inb c h))
    (hsc := hsc) (hsrc := hsrc) (hdst := hdst) (hsem := hsem) (sS := .dma (semS (tn w h))) (sem := .dma (semR w h)) (k := .ret) (q := fullShare) (fs := cG (tl X W c (fw c w.castSucc) h))
    (κ₁ := K (c, .snd w h)) (κ₂ := K (fw c w.castSucc, .rcv w h)) (r₁ := 0) (r₂ := 0) (d₁ := 0) (d₂ := 0) (fd := f)
    (by rw [show ((c : Thread nD τ), SemLoc.dma (semS (tn w h))) = cell c (.snd w h) from rfl, duties_cell]; exact Finset.mem_singleton_self _)
    (by rw [show ((fw c w.castSucc : Thread nD τ), SemLoc.dma (semR w h)) = cell (fw c w.castSucc) (.rcv w h) from rfl, duties_cell]; exact Finset.mem_singleton_self _)
    () () NT rfl (amount_cell X W c (.snd w h) 0 0) (amount_cell X W (fw c w.castSucc) (.rcv w h) 0 0) (due l) rfl (W := V)
    (by
      rw [show (sched X W).payload ((c : Thread nD τ), SemLoc.dma (semS (tn w h))) 0 0 = pay X W c 0 (.snd w h) from payload_cell X W c (.snd w h) 0 0,
        show (mC (sq w h)).view.set = slotC (sq w h) from set_mC _]
      unfold pay
      iintro H
      iexists _; iexact H)
    (by
      rw [show (sched X W).payload ((fw c w.castSucc : Thread nD τ), SemLoc.dma (semR w h)) 0 0 = pay X W (fw c w.castSucc) 0 (.rcv w h) from payload_cell X W (fw c w.castSucc) (.rcv w h) 0 0,
        set_S]
      unfold pay
      dsimp only
      rw [bk_fw]
      exact Entails.of_eq (pointsTo_congr (copied_S X W c (fw c w.castSucc) h (sq w h) f)))

/-- Sending a tile. -/
theorem wp_send (w : Fin 3) (h : Fin 2) (t : Fin 6) (ht : t = tn w h) (q : Fin 4) (hq : q = sq w h) (l : List (Dev nD × CK)) (Q : PUnit → sProp 𝕄) :
    iprop(Ctx X W K ∗ Ow c ((fw c w.castSucc, .rcv w h) :: l) ∗ ptC c (slotC q) (cG (tl X W c (fw c w.castSucc) h))
        ∗ (∃ f, ptS (F := F) (fw c w.castSucc) (tileS c h) f)
        ∗ dutyTok ER (cell c (.snd w h)) 0 0 ∗ dutyTok ER (cell (fw c w.castSucc) (.rcv w h)) 0 0)
      ⊢ iprop(((cred (tallyAt (cell c (.snd w h)) () NT) ∗ Ow c l) -∗ Q ⟨⟩) -∗ WP c (send c w h t q) Q) := by
  subst ht
  unfold Ow
  iintro ⟨#HC, ⟨%V, HO⟩, Hc, ⟨%f, Hf⟩, T1, T2⟩ Hk
  unfold send Prog.lift
  iapply (ends (wp_sendTo X W K c (sendDev c (tn w h)) w (sendDev_eq c w h) h q hq _ _ _ _ f l V Q)) $$ [HO Hc Hf T1 T2]
  · isplitr; · iapply (ctx_inv X W K c (.snd w h)); iexact HC
    isplitr; · iapply (ctx_inv X W K (fw c w.castSucc) (.rcv w h)); iexact HC
    isplitl [Hc]; · iexact Hc
    isplitl [Hf]; · iexact Hf
    isplitl [HO]; · iexact HO
    isplitl [T1]; · iexact T1
    isplitr; · iapply (ctx_reached X W K c (.snd w h)); iexact HC
    isplitl [T2]; · iexact T2
    iapply (ctx_reached X W K (fw c w.castSucc) (.rcv w h)); iexact HC
  iintro ⟨H1, H2⟩
  iapply Hk
  isplitl [H1]; · iexact H1
  iexists _; iexact H2

/-- Waiting for a tile to have left: its comm slot comes back. -/
theorem wp_sent (w : Fin 3) (h : Fin 2) (h' : Fin 2) (t : Fin 6) (ht : t = tn w h) (q : Fin 4) (hq : q = sq w h) (l : List (Dev nD × CK))
    (hl : ∀ x ∈ l, 0 < lvK (some x.2)) (Q : PUnit → sProp 𝕄) :
    iprop(Ctx X W K ∗ cred (tallyAt (cell c (.snd w h)) () NT) ∗ atPos ER (cell c (.snd w h)) 0 ∅ 0 ∗ Ow c l)
      ⊢ iprop((((∃ f, ptC (F := F) c (slotC q) f) ∗ atPos ER (cell c (.snd w h)) (0 + 1) ∅ 0 ∗ Ow c l) -∗ Q ⟨⟩) -∗ WP c (sent c h' t q) Q) := by
  subst ht hq
  unfold sent
  refine wp_take1 X W K c (.snd w h) NT rfl rfl _ ?_ l hl Q
  exact wpE_waitDma2_eq 𝒱₀ (c : Thread nD τ) none Set.univ

/-- Waiting for a tile to arrive: its place comes back with the tile in it. -/
theorem wp_recvd (w : Fin 3) (h : Fin 2) (Q : PUnit → sProp 𝕄) :
    iprop(Ctx X W K ∗ cred (tallyAt (cell c (.rcv w h)) () NT) ∗ atPos ER (cell c (.rcv w h)) 0 ∅ 0 ∗ Ow c [])
      ⊢ iprop(((ptS c (tileS (bk c w.succ) h) (sG (tl X W (bk c w.succ) c h)) ∗ atPos ER (cell c (.rcv w h)) (0 + 1) ∅ 0 ∗ Ow c []) -∗ Q ⟨⟩) -∗ WP c (recvd c w h) Q) := by
  unfold recvd
  refine wp_take1 X W K c (.rcv w h) NT rfl rfl _ ?_ [] (fun x hx => absurd hx List.not_mem_nil) Q
  exact wpE_waitDma2_eq 𝒱₀ (c : Thread nD τ) none Set.univ

/-! ## The maxima -/

/-- The indices of the own maximum, as sent. -/
theorem set_M8 : (mM (k0_off8 c) (k0_off8_inb c)).view.set = slotM c :=
  (set_mM _ _).trans (congrArg (fun o => box (s := S4x8x128) o S1x8x128.size) (off8_eq c))
/-- The indices of the own maximum, as stored. -/
theorem set_M7 : ((aM : Memref sig .tc .vmem S4x8x128 .f32).access (rM (k0_off7 c) (k0_off7_inb c))).set = slotM c :=
  (set_rM _ _).trans (congrArg (fun o => box (s := S4x8x128) o S1x8x128.size) (off7_eq c))

/-- What storing the own maximum leaves in its slot. -/
theorem stored_M (f : Vec F S4x8x128 .f32) :
    ∀ i ∈ slotM c, ((aM.access (rM (k0_off7 c) (k0_off7_inb c))).write (Elt F) f (k0_pay28 (amx X W c)) Finset.univ : Vec F S4x8x128 .f32) i = mAll X W i := by
  intro i hi
  obtain ⟨⟨a0, a1⟩, -, -⟩ := mem_box3.mp hi
  have e : (i 0 : Dev nD) = c := Fin.ext (by show (i 0).val = c.val; omega)
  refine (write_M _ _ f _ i (by rw [off7_eq]; exact hi) (ix3 0 (i 1) (i 2)) ?_ ?_).trans ?_
  · rw [off7_eq]; exact Nat.zero_add _
  · rw [off7_eq]; exact Nat.zero_add _
  · unfold mAll; rw [e]

/-- Storing the own maximum. -/
theorem wp_maxPut (v : F .f32) (hv : v = amx X W c) (Q : PUnit → sProp 𝕄) :
    iprop(∃ f, ptM (F := F) c (slotM c) fullShare f) ⊢ iprop((ptM c (slotM c) fullShare (mAll X W) -∗ Q ⟨⟩) -∗ WP c (maxPut c v) Q) := by
  subst hv
  iintro ⟨%f, H⟩ Hk
  unfold maxPut WP
  rw [wp_bind]
  unfold Prog.lift
  iapply (wp_load_rect 𝒱₀ (c : Thread nD τ) none Set.univ (m := aM) (r := rM (k0_off7 c) (k0_off7_inb c)) (S := slotM c) (le_of_eq (set_M7 c))) $$ H
  iintro H
  rw [wp_ret]; imodintro
  iapply (wp_store 𝒱₀ (c : Thread nD τ) none Set.univ (m := aM) (r := rM (k0_off7 c) (k0_off7_inb c)) (Mk := Finset.univ) (S := slotM c) (le_of_eq (set_M7 c))) $$ H
  iintro H
  rw [wp_ret]; imodintro
  iapply Hk
  iapply (Entails.of_eq (pointsTo_congr (stored_M X W c f))) $$ H

/-- What sending the own maximum leaves in the receiver's slot. -/
theorem copied_M (f : Vec F S4x8x128 .f32) :
    ∀ i ∈ slotM c, ((mM (k0_off8 c) (k0_off8_inb c)).view.write (Elt F) f ((mM (k0_off8 c) (k0_off8_inb c)).view.read (Elt F) (mAll X W)) Finset.univ : Vec F S4x8x128 .f32) i
      = mAll X W i :=
  fun i hi => copy_M _ _ f (mAll X W) i (by rw [off8_eq]; exact hi)

/-- Sending the own maximum to a named device. -/
theorem wp_maxTo (n : Dev nD) (j : Fin 3) (hn : n = fw c j.castSucc)
    (hsc) (hsrc) (hdst) (hsem) (f : Vec F S4x8x128 .f32) (l : List (Dev nD × CK)) (V : Waits sig Unit) (Q : PUnit → sProp 𝕄) :
    iprop(cellInv ER (sched X W) (K (c, .xs j)) (cell c (.xs j)) ∗ cellInv ER (sched X W) (K (fw c j.castSucc, .xr j)) (cell (fw c j.castSucc) (.xr j))
        ∗ ptM c (slotM c) (mShare j) (mAll X W) ∗ ptM (fw c j.castSucc) (slotM c) fullShare f
        ∗ owes (c : Thread nD τ) (due ((fw c j.castSucc, .xr j) :: l)) V
        ∗ dutyTok ER (cell c (.xs j)) 0 0 ∗ reached ER (cell c (.xs j)) 0
        ∗ dutyTok ER (cell (fw c j.castSucc) (.xr j)) 0 0 ∗ reached ER (cell (fw c j.castSucc) (.xr j)) 0)
      ⊢ iprop(((cred (tallyAt (cell c (.xs j)) () NM) ∗ owes (c : Thread nD τ) (due l) V) -∗ WP c (.ret ⟨⟩) Q)
          -∗ WP c (Prog.op (.enqueueDma (mM (k0_off8 c) (k0_off8_inb c)) (.remote (Dev.tc n) (mM (k0_off8 c) (k0_off8_inb c)) (.dma (semXs j)) hsc) (.dma (semXr j)) hsrc hdst hsem) .ret) Q) := by
  subst hn
  rw [show slotM c = (mM (k0_off8 c) (k0_off8_inb c)).view.set from (set_M8 c).symm]
  exact Rounds.wp_send_pointsTo (Q := Q) 𝒱₀ ER (sched X W) (c : Thread nD τ) none (defs := defs₀ (F := F)) (c' := (fw c j.castSucc : Thread nD τ)) (src := mM (k0_off8 c) (k0_off8_inb c)) (dst := mM (k0_off8 c) (k0_off8_inb c))
    (hsc := hsc) (hsrc := hsrc) (hdst := hdst) (hsem := hsem) (sS := .dma (semXs j)) (sem := .dma (semXr j)) (k := .ret) (q := mShare j) (fs := mAll X W)
    (κ₁ := K (c, .xs j)) (κ₂ := K (fw c j.castSucc, .xr j)) (r₁ := 0) (r₂ := 0) (d₁ := 0) (d₂ := 0) (fd := f)
    (by rw [show ((c : Thread nD τ), SemLoc.dma (semXs j)) = cell c (.xs j) from rfl, duties_cell]; exact Finset.mem_singleton_self _)
    (by rw [show ((fw c j.castSucc : Thread nD τ), SemLoc.dma (semXr j)) = cell (fw c j.castSucc) (.xr j) from rfl, duties_cell]; exact Finset.mem_singleton_self _)
    () () NM rfl (amount_cell X W c (.xs j) 0 0) (amount_cell X W (fw c j.castSucc) (.xr j) 0 0) (due l) rfl (W := V)
    (by
      rw [show (sched X W).payload ((c : Thread nD τ), SemLoc.dma (semXs j)) 0 0 = pay X W c 0 (.xs j) from payload_cell X W c (.xs j) 0 0, set_M8]
      exact BI.Entails.refl _)
    (by
      rw [show (sched X W).payload ((fw c j.castSucc : Thread nD τ), SemLoc.dma (semXr j)) 0 0 = pay X W (fw c j.castSucc) 0 (.xr j) from payload_cell X W (fw c j.castSucc) (.xr j) 0 0,
        set_M8]
      unfold pay
      dsimp only
      rw [bk_fw]
      exact Entails.of_eq (pointsTo_congr (copied_M X W c f)))

/-- Sending the own maximum. -/
theorem wp_maxSend (j : Fin 3) (l : List (Dev nD × CK)) (Q : PUnit → sProp 𝕄) :
    iprop(Ctx X W K ∗ Ow c ((fw c j.castSucc, .xr j) :: l) ∗ ptM c (slotM c) (mShare j) (mAll X W)
        ∗ (∃ f, ptM (F := F) (fw c j.castSucc) (slotM c) fullShare f)
        ∗ dutyTok ER (cell c (.xs j)) 0 0 ∗ dutyTok ER (cell (fw c j.castSucc) (.xr j)) 0 0)
      ⊢ iprop(((cred (tallyAt (cell c (.xs j)) () NM) ∗ Ow c l) -∗ Q ⟨⟩) -∗ WP c (maxSend c j) Q) := by
  unfold Ow
  iintro ⟨#HC, ⟨%V, HO⟩, Hc, ⟨%f, Hf⟩, T1, T2⟩ Hk
  unfold maxSend Prog.lift
  iapply (ends (wp_maxTo X W K c (maxDev c j) j (maxDev_eq c j) _ _ _ _ f l V Q)) $$ [HO Hc Hf T1 T2]
  · isplitr; · iapply (ctx_inv X W K c (.xs j)); iexact HC
    isplitr; · iapply (ctx_inv X W K (fw c j.castSucc) (.xr j)); iexact HC
    isplitl [Hc]; · iexact Hc
    isplitl [Hf]; · iexact Hf
    isplitl [HO]; · iexact HO
    isplitl [T1]; · iexact T1
    isplitr; · iapply (ctx_reached X W K c (.xs j)); iexact HC
    isplitl [T2]; · iexact T2
    iapply (ctx_reached X W K (fw c j.castSucc) (.xr j)); iexact HC
  iintro ⟨H1, H2⟩
  iapply Hk
  isplitl [H1]; · iexact H1
  iexists _; iexact H2

/-- Waiting for the own maximum to have left: its share comes back. -/
theorem wp_maxSent (j : Fin 3) (Q : PUnit → sProp 𝕄) :
    iprop(Ctx X W K ∗ cred (tallyAt (cell c (.xs j)) () NM) ∗ atPos ER (cell c (.xs j)) 0 ∅ 0 ∗ Ow c [])
      ⊢ iprop(((ptM c (slotM c) (mShare j) (mAll X W) ∗ atPos ER (cell c (.xs j)) (0 + 1) ∅ 0 ∗ Ow c []) -∗ Q ⟨⟩) -∗ WP c (maxSent c j) Q) := by
  unfold maxSent
  refine wp_take1 X W K c (.xs j) NM rfl rfl _ ?_ [] (fun x hx => absurd hx List.not_mem_nil) Q
  exact wpE_waitDma2_eq 𝒱₀ (c : Thread nD τ) none Set.univ

/-- Waiting for another's maximum: its slot comes back with the maximum in it. -/
theorem wp_maxGot (j : Fin 3) (Q : PUnit → sProp 𝕄) :
    iprop(Ctx X W K ∗ cred (tallyAt (cell c (.xr j)) () NM) ∗ atPos ER (cell c (.xr j)) 0 ∅ 0 ∗ Ow c [])
      ⊢ iprop(((ptM c (slotM (bk c j.succ)) fullShare (mAll X W) ∗ atPos ER (cell c (.xr j)) (0 + 1) ∅ 0 ∗ Ow c []) -∗ Q ⟨⟩) -∗ WP c (maxGot c j) Q) := by
  unfold maxGot
  refine wp_take1 X W K c (.xr j) NM rfl rfl _ ?_ [] (fun x hx => absurd hx List.not_mem_nil) Q
  exact wpE_waitDma2_eq 𝒱₀ (c : Thread nD τ) none Set.univ

/-- Loading all the maxima. -/
theorem wp_ldM (Q : Vec F S4x8x128 .f32 → sProp 𝕄) :
    ptM c Finset.univ fullShare (mAll X W) ⊢ iprop((ptM c Finset.univ fullShare (mAll X W) -∗ Q (mAll X W)) -∗ WP c ldM Q) := by
  iintro HX Hk
  unfold ldM Prog.lift
  iapply (wp_load 𝒱₀ (c : Thread nD τ) none Set.univ (m := aM) (S := Finset.univ) (Finset.subset_univ _)) $$ HX
  iintro HX
  rw [wp_ret]; imodintro
  have e : aM.view.readAt (Elt F) (Rect.unit (s := S4x8x128) ![0, 0, 0] S4x8x128.size inb_S4x8x128_S4x8x128_0_0_0).toLoadRect (mAll X W) = mAll X W :=
    Memref.readAt_unit_zero (Elt F) cc0_scratch2 (funext fun a => by fin_cases a <;> rfl) _ (mAll X W)
  rw [e]
  iapply Hk; iexact HX

end Rules

end Cert.KernelIdeal.Coll

end
-- ==== Proof.KernelIdeal.Groups.lean ====
/-
  The local copies by fours: a tile of w coming into its slot, a finished tile going out to the result, an
  arrived tile coming into its comm slot; and one tile's product.
-/
module

public import proofs.«01_k».proof.Proof.KernelIdeal.Ops

@[expose] public section

set_option maxRecDepth 65536

noncomputable section

namespace Cert.KernelIdeal.Coll

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal Cert.KernelIdeal.Gen

variable {F : FTy → Type} [FloatOps F]

local notation "𝕄" => MT nD τ sig Unit (Elt F) ℕ UU ℕ

/-- Four things held together. -/
abbrev four (Φ : Fin 4 → sProp 𝕄) : sProp 𝕄 := iprop(Φ 0 ∗ Φ 1 ∗ Φ 2 ∗ Φ 3)

/-- A separate conjunction over four, written out. -/
theorem bigSep_four (Φ : Fin 4 → sProp 𝕄) : bigSep Finset.univ Φ = four Φ :=
  bigSep_univ_eq_bigSepL [0, 1, 2, 3] (by decide) (by decide) Φ

/-- An array's part that four parts make up. -/
theorem quarter (ℓ : Loc nD τ sig) (S : Finset (Idx ℓ)) (K : Fin 4 → Finset (Idx ℓ)) (hS : S = Finset.univ.biUnion K)
    (hd : ∀ t t', t ≠ t' → Disjoint (K t) (K t')) (q : PosShare TreeShare) (f : Buf (Elt F) ℓ) :
    (ℓ ↦[S]{q} f : sProp 𝕄) = four fun j => ℓ ↦[K j]{q} f := by
  rw [hS, pointsTo_biUnion _ _ fun t _ t' _ => hd t t', bigSep_four]

/-- Boxes apart along one axis. -/
theorem box_apart (s : Shape) {o o' n n' : Fin s.rank → Nat} (a : Fin s.rank) (h : o a + n a ≤ o' a ∨ o' a + n' a ≤ o a) :
    Disjoint (box (s := s) o n) (box o' n') :=
  Finset.disjoint_left.mpr fun i hi hi' => by
    have h1 := mem_box.mp hi a
    have h2 := mem_box.mp hi' a
    omega

/-- The four quarters make up a w slot and do not meet. -/
theorem slotW_cut (s : Fin 2) : slotW s = Finset.univ.biUnion (chW s) ∧ ∀ t t', t ≠ t' → Disjoint (chW s t) (chW s t') := by
  refine ⟨Finset.ext fun i => ?_, fun t t' h => box_apart S2x4096x1024 (1 : Fin 3) ?_⟩
  · rw [Finset.mem_biUnion, slotW, mem_box3]
    have h2 : (i 2).val < 1024 := (i 2).isLt
    constructor
    · rintro ⟨⟨a0, a1⟩, ⟨b0, b1⟩, c0, c1⟩
      exact ⟨⟨(i 1).val / 1024, by omega⟩, Finset.mem_univ _, mem_box3.mpr ⟨⟨a0, a1⟩, ⟨by dsimp only; omega, by dsimp only; omega⟩, c0, c1⟩⟩
    · rintro ⟨j, -, hj⟩
      obtain ⟨⟨a0, a1⟩, ⟨b0, b1⟩, c0, c1⟩ := mem_box3.mp hj
      have := j.isLt
      exact ⟨⟨a0, a1⟩, ⟨by omega, by omega⟩, c0, c1⟩
  · show 1024 * t.val + 1024 ≤ 1024 * t'.val ∨ 1024 * t'.val + 1024 ≤ 1024 * t.val
    have : t.val ≠ t'.val := fun e => h (Fin.ext e)
    omega

/-- A w slot held is its four quarters held. -/
theorem slotW_quarter (s : Fin 2) (c : Dev nD) (f : Vec F S2x4096x1024 .f32) :
    (ptW c (slotW s) f : sProp 𝕄) = four fun j => ptW c (chW s j) f :=
  quarter ((c : Thread nD τ).loc cc0_scratch0) _ (chW s) (slotW_cut s).1 (slotW_cut s).2 _ _

/-- The four quarters make up a finished tile and do not meet. -/
theorem topW_cut (s : Fin 2) : topW s = Finset.univ.biUnion (chO s) ∧ ∀ t t', t ≠ t' → Disjoint (chO s t) (chO s t') := by
  refine ⟨Finset.ext fun i => ?_, fun t t' h => box_apart S2x4096x1024 (1 : Fin 3) ?_⟩
  · rw [Finset.mem_biUnion, topW, mem_box3]
    constructor
    · rintro ⟨⟨a0, a1⟩, ⟨b0, b1⟩, c0, c1⟩
      exact ⟨⟨(i 1).val / 256, by omega⟩, Finset.mem_univ _, mem_box3.mpr ⟨⟨a0, a1⟩, ⟨by dsimp only; omega, by dsimp only; omega⟩, c0, c1⟩⟩
    · rintro ⟨j, -, hj⟩
      obtain ⟨⟨a0, a1⟩, ⟨b0, b1⟩, c0, c1⟩ := mem_box3.mp hj
      have := j.isLt
      exact ⟨⟨a0, a1⟩, ⟨by omega, by omega⟩, c0, c1⟩
  · show 256 * t.val + 256 ≤ 256 * t'.val ∨ 256 * t'.val + 256 ≤ 256 * t.val
    have : t.val ≠ t'.val := fun e => h (Fin.ext e)
    omega

/-- A finished tile held is its four quarters held. -/
theorem topW_quarter (s : Fin 2) (c : Dev nD) (f : Vec F S2x4096x1024 .f32) :
    (ptW c (topW s) f : sProp 𝕄) = four fun j => ptW c (chO s j) f :=
  quarter ((c : Thread nD τ).loc cc0_scratch0) _ (chO s) (topW_cut s).1 (topW_cut s).2 _ _

/-- The comm slot of half `h` in the last stage. -/
def hq (h : Fin 2) : Fin 4 := ⟨2 + h.val, by omega⟩

/-- The four quarters make up a loading slot and do not meet. -/
theorem slotC_cut (h : Fin 2) : slotC (hq h) = Finset.univ.biUnion (chC h) ∧ ∀ t t', t ≠ t' → Disjoint (chC h t) (chC h t') := by
  refine ⟨Finset.ext fun i => ?_, fun t t' h => box_apart S4x1024x1024 (1 : Fin 3) ?_⟩
  · rw [Finset.mem_biUnion, slotC, mem_box3]
    constructor
    · rintro ⟨⟨a0, a1⟩, ⟨b0, b1⟩, c0, c1⟩
      exact ⟨⟨(i 1).val / 256, by omega⟩, Finset.mem_univ _, mem_box3.mpr ⟨⟨a0, a1⟩, ⟨by dsimp only; omega, by dsimp only; omega⟩, c0, c1⟩⟩
    · rintro ⟨j, -, hj⟩
      obtain ⟨⟨a0, a1⟩, ⟨b0, b1⟩, c0, c1⟩ := mem_box3.mp hj
      have := j.isLt
      exact ⟨⟨a0, a1⟩, ⟨by omega, by omega⟩, c0, c1⟩
  · show 256 * t.val + 256 ≤ 256 * t'.val ∨ 256 * t'.val + 256 ≤ 256 * t.val
    have : t.val ≠ t'.val := fun e => h (Fin.ext e)
    omega

/-- A loading slot held is its four quarters held. -/
theorem slotC_quarter (h : Fin 2) (c : Dev nD) (f : Vec F S4x1024x1024 .bf16) :
    (ptC c (slotC (hq h)) f : sProp 𝕄) = four fun j => ptC c (chC h j) f :=
  quarter ((c : Thread nD τ).loc cc0_scratch1) _ (chC h) (slotC_cut h).1 (slotC_cut h).2 _ _

/-- The row chunks of a tile. -/
theorem tile_chunks (e : Dev nD) (h : Fin 2) :
    tileS e h = Finset.univ.biUnion (chS e h) ∧ ∀ t t', t ≠ t' → Disjoint (chS e h t) (chS e h t') := by
  refine ⟨Finset.ext fun i => ?_, fun t t' h => box_apart S4096x2048 (0 : Fin 2) ?_⟩
  · rw [Finset.mem_biUnion, tileS, mem_box2]
    constructor
    · rintro ⟨⟨a0, a1⟩, c0, c1⟩
      exact ⟨⟨((i 0).val - 1024 * e.val) / 256, by omega⟩, Finset.mem_univ _, mem_box2.mpr ⟨⟨by dsimp only; omega, by dsimp only; omega⟩, c0, c1⟩⟩
    · rintro ⟨j, -, hj⟩
      obtain ⟨⟨a0, a1⟩, c0, c1⟩ := mem_box2.mp hj
      have := j.isLt
      exact ⟨⟨by omega, by omega⟩, c0, c1⟩
  · show 1024 * e.val + 256 * t.val + 256 ≤ 1024 * e.val + 256 * t'.val ∨ 1024 * e.val + 256 * t'.val + 256 ≤ 1024 * e.val + 256 * t.val
    have : t.val ≠ t'.val := fun e => h (Fin.ext e)
    omega

/-- A tile of the stage array held is its four quarters held. -/
theorem tileS_quarter (e : Dev nD) (h : Fin 2) (c : Dev nD) (f : Vec F S4096x2048 .bf16) :
    (ptS c (tileS e h) f : sProp 𝕄) = four fun j => ptS c (chS e h j) f :=
  quarter ((c : Thread nD τ).loc main_v1_1) _ (chS e h) (tile_chunks e h).1 (tile_chunks e h).2 _ _
/-- A tile of the result held is its four quarters held. -/
theorem tileR_quarter (e : Dev nD) (h : Fin 2) (c : Dev nD) (f : Vec F S4096x2048 .f32) :
    (ptR c (tileS e h) f : sProp 𝕄) = four fun j => ptR c (chS e h j) f :=
  quarter ((c : Thread nD τ).loc main_v1_0) _ (chS e h) (tile_chunks e h).1 (tile_chunks e h).2 _ _

section Rules
variable (W : Dev nD → Vec F S4096x8192 .f32) (X : Dev nD → Vec F S1024x4096 .f32) (c : Dev nD)

/-- Starting the load of a w tile. -/
theorem wp_wStart (a : Fin 4) (h : Fin 2) (Q : PUnit → sProp 𝕄) :
    iprop(four (wOff W c h) ∗ ∃ f, ptW (F := F) c (slotW h) f) ⊢ iprop((four (wOn W c a h) -∗ Q ⟨⟩) -∗ WP c (wStart c a h) Q) := by
  iintro ⟨⟨H0, H1, H2, H3⟩, ⟨%f, Hf⟩⟩ Hk
  ihave Hf' := (Entails.of_eq (slotW_quarter h c f)) $$ Hf
  icases Hf' with ⟨P0, P1, P2, P3⟩
  unfold wStart WP
  simp only [wp_bind]
  iapply (wp_wOne W c a h 0 f) $$ [H0 P0]
  · isplitl [H0] <;> iassumption
  iintro G0
  iapply (wp_wOne W c a h 1 f) $$ [H1 P1]
  · isplitl [H1] <;> iassumption
  iintro G1
  iapply (wp_wOne W c a h 2 f) $$ [H2 P2]
  · isplitl [H2] <;> iassumption
  iintro G2
  iapply (wp_wOne W c a h 3 f) $$ [H3 P3]
  · isplitl [H3] <;> iassumption
  iintro G3
  iapply Hk
  isplitl [G0]; · iexact G0
  isplitl [G1]; · iexact G1
  isplitl [G2]; · iexact G2
  iexact G3

/-- Waiting for a w tile: its slot holds the tile. -/
theorem wp_wWait (a : Fin 4) (h : Fin 2) (l : List (Dev nD × CK)) (hl : ∀ p ∈ l, 0 < lvK (some p.2)) (Q : PUnit → sProp 𝕄) :
    iprop(levAts L lv ∗ four (wOn W c a h) ∗ Ow c l)
      ⊢ iprop(((four (wOff W c h) ∗ ptW c (slotW h) (wG (wTile W c (fw c a) h)) ∗ Ow c l) -∗ Q ⟨⟩) -∗ WP c (wWait c a h) Q) := by
  iintro ⟨#HL, ⟨H0, H1, H2, H3⟩, HO⟩ Hk
  unfold wWait WP
  simp only [wp_bind]
  iapply (wp_wGot W c a h 0 l hl) $$ [H0 HO]
  · isplitr; · iexact HL
    isplitl [H0] <;> iassumption
  iintro ⟨H0, P0, HO⟩
  iapply (wp_wGot W c a h 1 l hl) $$ [H1 HO]
  · isplitr; · iexact HL
    isplitl [H1] <;> iassumption
  iintro ⟨H1, P1, HO⟩
  iapply (wp_wGot W c a h 2 l hl) $$ [H2 HO]
  · isplitr; · iexact HL
    isplitl [H2] <;> iassumption
  iintro ⟨H2, P2, HO⟩
  iapply (wp_wGot W c a h 3 l hl) $$ [H3 HO]
  · isplitr; · iexact HL
    isplitl [H3] <;> iassumption
  iintro ⟨H3, P3, HO⟩
  iapply Hk
  isplitl [H0 H1 H2 H3]
  · isplitl [H0]; · iexact H0
    isplitl [H1]; · iexact H1
    isplitl [H2]; · iexact H2
    iexact H3
  isplitl [P0 P1 P2 P3]
  · iapply (Entails.of_eq (slotW_quarter h c (wG (wTile W c (fw c a) h))).symm)
    isplitl [P0]; · iexact P0
    isplitl [P1]; · iexact P1
    isplitl [P2]; · iexact P2
    iexact P3
  iexact HO

/-- Starting to write a finished tile. -/
theorem wp_oStart (w : Fin 4) (h : Fin 2) (Q : PUnit → sProp 𝕄) :
    iprop(four (oOff c h) ∗ ptW c (topW h) (wT (outT X W (bk c w) c h)) ∗ ∃ f, ptR (F := F) c (tileS (bk c w) h) f)
      ⊢ iprop((four (oOn W X c w h) -∗ Q ⟨⟩) -∗ WP c (oStart c w h) Q) := by
  iintro ⟨⟨H0, H1, H2, H3⟩, HW, ⟨%f, Hf⟩⟩ Hk
  ihave Hf' := (Entails.of_eq (tileR_quarter (bk c w) h c f)) $$ Hf
  icases Hf' with ⟨P0, P1, P2, P3⟩
  ihave HW' := (Entails.of_eq (topW_quarter h c (wT (outT X W (bk c w) c h)))) $$ HW
  icases HW' with ⟨R0, R1, R2, R3⟩
  unfold oStart WP
  simp only [wp_bind]
  iapply (wp_oOne W X c w h 0 f) $$ [H0 P0 R0]
  · isplitl [H0]; · iexact H0
    isplitl [R0] <;> iassumption
  iintro G0
  iapply (wp_oOne W X c w h 1 f) $$ [H1 P1 R1]
  · isplitl [H1]; · iexact H1
    isplitl [R1] <;> iassumption
  iintro G1
  iapply (wp_oOne W X c w h 2 f) $$ [H2 P2 R2]
  · isplitl [H2]; · iexact H2
    isplitl [R2] <;> iassumption
  iintro G2
  iapply (wp_oOne W X c w h 3 f) $$ [H3 P3 R3]
  · isplitl [H3]; · iexact H3
    isplitl [R3] <;> iassumption
  iintro G3
  iapply Hk
  isplitl [G0]; · iexact G0
  isplitl [G1]; · iexact G1
  isplitl [G2]; · iexact G2
  iexact G3

/-- Waiting for a finished tile to be written: the result holds it. -/
theorem wp_oWait (w : Fin 4) (h : Fin 2) (Q : PUnit → sProp 𝕄) :
    iprop(four (oOn W X c w h) ∗ Ow c [])
      ⊢ iprop(((four (oOff c h) ∗ ptR c (tileS (bk c w) h) (outAll X W c) ∗ (∃ f, ptW (F := F) c (topW h) f) ∗ Ow c []) -∗ Q ⟨⟩) -∗ WP c (oWait c w h) Q) := by
  iintro ⟨⟨H0, H1, H2, H3⟩, HO⟩ Hk
  unfold oWait WP
  simp only [wp_bind]
  iapply (wp_oGot W X c w h 0) $$ [H0 HO]
  · isplitl [H0] <;> iassumption
  iintro ⟨H0, P0, R0, HO⟩
  iapply (wp_oGot W X c w h 1) $$ [H1 HO]
  · isplitl [H1] <;> iassumption
  iintro ⟨H1, P1, R1, HO⟩
  iapply (wp_oGot W X c w h 2) $$ [H2 HO]
  · isplitl [H2] <;> iassumption
  iintro ⟨H2, P2, R2, HO⟩
  iapply (wp_oGot W X c w h 3) $$ [H3 HO]
  · isplitl [H3] <;> iassumption
  iintro ⟨H3, P3, R3, HO⟩
  iapply Hk
  isplitl [H0 H1 H2 H3]
  · isplitl [H0]; · iexact H0
    isplitl [H1]; · iexact H1
    isplitl [H2]; · iexact H2
    iexact H3
  isplitl [P0 P1 P2 P3]
  · iapply (Entails.of_eq (tileR_quarter (bk c w) h c (outAll X W c)).symm)
    isplitl [P0]; · iexact P0
    isplitl [P1]; · iexact P1
    isplitl [P2]; · iexact P2
    iexact P3
  isplitl [R0 R1 R2 R3]
  · iexists (wT (outT X W (bk c w) c h))
    iapply (Entails.of_eq (topW_quarter h c (wT (outT X W (bk c w) c h))).symm)
    isplitl [R0]; · iexact R0
    isplitl [R1]; · iexact R1
    isplitl [R2]; · iexact R2
    iexact R3
  iexact HO

/-- Starting to load an arrived tile. -/
theorem wp_iStart (w : Fin 4) (h : Fin 2) (Q : PUnit → sProp 𝕄) :
    iprop(four (iOff c h) ∗ ptS c (tileS (bk c w) h) (sG (tl X W (bk c w) c h)) ∗ ∃ f, ptC (F := F) c (slotC (hq h)) f)
      ⊢ iprop((four (iOn W X c w h) -∗ Q ⟨⟩) -∗ WP c (iStart c w h) Q) := by
  iintro ⟨⟨H0, H1, H2, H3⟩, HS, ⟨%f, Hf⟩⟩ Hk
  ihave Hf' := (Entails.of_eq (slotC_quarter h c f)) $$ Hf
  icases Hf' with ⟨P0, P1, P2, P3⟩
  ihave HS' := (Entails.of_eq (tileS_quarter (bk c w) h c (sG (tl X W (bk c w) c h)))) $$ HS
  icases HS' with ⟨R0, R1, R2, R3⟩
  unfold iStart WP
  simp only [wp_bind]
  iapply (wp_iOne W X c w h 0 f) $$ [H0 P0 R0]
  · isplitl [H0]; · iexact H0
    isplitl [R0] <;> iassumption
  iintro G0
  iapply (wp_iOne W X c w h 1 f) $$ [H1 P1 R1]
  · isplitl [H1]; · iexact H1
    isplitl [R1] <;> iassumption
  iintro G1
  iapply (wp_iOne W X c w h 2 f) $$ [H2 P2 R2]
  · isplitl [H2]; · iexact H2
    isplitl [R2] <;> iassumption
  iintro G2
  iapply (wp_iOne W X c w h 3 f) $$ [H3 P3 R3]
  · isplitl [H3]; · iexact H3
    isplitl [R3] <;> iassumption
  iintro G3
  iapply Hk
  isplitl [G0]; · iexact G0
  isplitl [G1]; · iexact G1
  isplitl [G2]; · iexact G2
  iexact G3

/-- Waiting for an arrived tile: its slot holds it. -/
theorem wp_iWait (w : Fin 4) (h : Fin 2) (Q : PUnit → sProp 𝕄) :
    iprop(four (iOn W X c w h) ∗ Ow c [])
      ⊢ iprop(((four (iOff c h) ∗ ptC c (slotC (hq h)) (cG (tl X W (bk c w) c h)) ∗ ptS c (tileS (bk c w) h) (sG (tl X W (bk c w) c h)) ∗ Ow c []) -∗ Q ⟨⟩)
        -∗ WP c (iWait c w h) Q) := by
  iintro ⟨⟨H0, H1, H2, H3⟩, HO⟩ Hk
  unfold iWait WP
  simp only [wp_bind]
  iapply (wp_iGot W X c w h 0) $$ [H0 HO]
  · isplitl [H0] <;> iassumption
  iintro ⟨H0, P0, R0, HO⟩
  iapply (wp_iGot W X c w h 1) $$ [H1 HO]
  · isplitl [H1] <;> iassumption
  iintro ⟨H1, P1, R1, HO⟩
  iapply (wp_iGot W X c w h 2) $$ [H2 HO]
  · isplitl [H2] <;> iassumption
  iintro ⟨H2, P2, R2, HO⟩
  iapply (wp_iGot W X c w h 3) $$ [H3 HO]
  · isplitl [H3] <;> iassumption
  iintro ⟨H3, P3, R3, HO⟩
  iapply Hk
  isplitl [H0 H1 H2 H3]
  · isplitl [H0]; · iexact H0
    isplitl [H1]; · iexact H1
    isplitl [H2]; · iexact H2
    iexact H3
  isplitl [P0 P1 P2 P3]
  · iapply (Entails.of_eq (slotC_quarter h c (cG (tl X W (bk c w) c h))).symm)
    isplitl [P0]; · iexact P0
    isplitl [P1]; · iexact P1
    isplitl [P2]; · iexact P2
    iexact P3
  isplitl [R0 R1 R2 R3]
  · iapply (Entails.of_eq (tileS_quarter (bk c w) h c (sG (tl X W (bk c w) c h))).symm)
    isplitl [R0]; · iexact R0
    isplitl [R1]; · iexact R1
    isplitl [R2]; · iexact R2
    iexact R3
  iexact HO

/-- One tile's product; what runs before the store makes the comm slot free. -/
theorem wp_mm (q : Fin 4) (h : Fin 2) (acc : F .f32) (before : TC F PUnit) (f : Vec F S1024x4096 .f32) (Y : Vec F S1x4096x1024 .f32)
    (B R : sProp 𝕄) (hb : ∀ Q : PUnit → sProp 𝕄, B ⊢ iprop((((∃ f, ptC (F := F) c (slotC q) f) ∗ R) -∗ Q ⟨⟩) -∗ WP c before Q)) (Q : F .f32 → sProp 𝕄) :
    iprop(ptX c f ∗ ptW c (slotW h) (wG Y) ∗ B)
      ⊢ iprop(((ptX c f ∗ ptW c (slotW h) (wG Y) ∗ ptC c (slotC q) (cG (k0_pay3 f Y)) ∗ R) -∗ Q (k0_pay5 acc f Y)) -∗ WP c (mm q h acc before) Q) := by
  iintro ⟨HX, HW, HB⟩ Hk
  unfold mm WP
  rw [wp_bind]
  iapply (wp_ldX c f) $$ HX
  iintro HX
  rw [wp_bind]
  iapply (wp_ldW c h Y) $$ HW
  iintro HW
  rw [wp_bind]
  iapply (hb _) $$ HB
  iintro ⟨HC, HR⟩
  rw [wp_bind]
  iapply (wp_stC c q (k0_pay3 f Y)) $$ HC
  iintro HC
  rw [wp_pure]
  imodintro
  iapply Hk
  isplitl [HX]; · iexact HX
  isplitl [HW]; · iexact HW
  isplitl [HC]; · iexact HC
  iexact HR

/-- Nothing to do: the slot is free already. -/
theorem wp_free (q : Fin 4) (Q : PUnit → sProp 𝕄) :
    iprop(∃ f, ptC (F := F) c (slotC q) f) ⊢ iprop((((∃ f, ptC (F := F) c (slotC q) f) ∗ emp) -∗ Q ⟨⟩) -∗ WP c (pure ⟨⟩) Q) := by
  iintro H Hk
  unfold WP
  rw [wp_pure]
  imodintro
  iapply Hk
  isplitl [H]; · iexact H
  iempintro

end Rules

end Cert.KernelIdeal.Coll

end
-- ==== Proof.KernelIdeal.Stage.lean ====
/-
  The stretches of the device's program: a tile computed and sent, the last tiles, the maxima exchanged,
  and a tile finished while the next one comes in.
-/
module

public import proofs.«01_k».proof.Proof.KernelIdeal.Talk
public import proofs.«01_k».proof.Proof.KernelIdeal.Groups

@[expose] public section

set_option maxRecDepth 65536

noncomputable section

namespace Cert.KernelIdeal.Coll

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal Cert.KernelIdeal.Gen

variable {F : FTy → Type} [FloatOps F]

local notation "𝕄" => MT nD τ sig Unit (Elt F) ℕ UU ℕ

/-- Every device is some number of steps back. -/
theorem bk_onto (c e : Dev nD) : ∃ w, bk c w = e := by revert c e; decide
/-- Different numbers of steps back lead to different devices. -/
theorem bk_inj (c : Dev nD) {w w' : Fin 4} (h : bk c w = bk c w') : w = w' := by revert c w w'; decide

section Rules
variable (X : Dev nD → Vec F S1024x4096 .f32) (W : Dev nD → Vec F S4096x8192 .f32) (K : Dev nD × CK → ℕ) (c : Dev nD)

/-- What a send needs beside the tile: the place it goes to, and both duties. -/
def sendKit (w : Fin 3) (h : Fin 2) : sProp 𝕄 :=
  iprop((∃ f, ptS (F := F) (fw c w.castSucc) (tileS c h) f) ∗ dutyTok ER (cell c (.snd w h)) 0 0 ∗ dutyTok ER (cell (fw c w.castSucc) (.rcv w h)) 0 0)
/-- What the wait for a send's end needs. -/
def sentKit (w : Fin 3) (h : Fin 2) : sProp 𝕄 := iprop(cred (tallyAt (cell c (.snd w h)) () NT) ∗ atPos ER (cell c (.snd w h)) 0 ∅ 0)
/-- What the wait for a tile needs. -/
def recvKit (w : Fin 3) (h : Fin 2) : sProp 𝕄 := iprop(cred (tallyAt (cell c (.rcv w h)) () NT) ∗ atPos ER (cell c (.rcv w h)) 0 ∅ 0)
/-- A shared cell whose round is over. -/
abbrev past (k : CK) : sProp 𝕄 := atPos ER (cell c k) (0 + 1) ∅ 0

/-- The slot was never sent from. -/
theorem free_first (q : Fin 4) (l : List (Dev nD × CK)) (Q : PUnit → sProp 𝕄) :
    iprop(Ow c l ∗ ∃ f, ptC (F := F) c (slotC q) f) ⊢ iprop((((∃ f, ptC (F := F) c (slotC q) f) ∗ Ow c l ∗ emp) -∗ Q ⟨⟩) -∗ WP c (pure ⟨⟩) Q) := by
  iintro ⟨HO, H⟩ Hk
  iapply (wp_free c q) $$ H
  iintro ⟨H, HE⟩
  iapply Hk
  isplitl [H]; · iexact H
  isplitl [HO]; · iexact HO
  iexact HE
/-- The slot's send has to end first. -/
theorem free_sent (w : Fin 3) (h h' : Fin 2) (t : Fin 6) (ht : t = tn w h) (q : Fin 4) (hq : q = sq w h) (l : List (Dev nD × CK))
    (hl : ∀ x ∈ l, 0 < lvK (some x.2)) (Q : PUnit → sProp 𝕄) :
    iprop(Ow c l ∗ (Ctx X W K ∗ sentKit c w h)) ⊢ iprop((((∃ f, ptC (F := F) c (slotC q) f) ∗ Ow c l ∗ past c (.snd w h)) -∗ Q ⟨⟩) -∗ WP c (sent c h' t q) Q) := by
  unfold sentKit
  iintro ⟨HO, HC, H1, H2⟩ Hk
  iapply (wp_sent X W K c w h h' t ht q hq l hl) $$ [HO HC H1 H2]
  · isplitl [HC]; · iexact HC
    isplitl [H1]; · iexact H1
    isplitl [H2]; · iexact H2
    iexact HO
  iintro ⟨Hc, Ha, HO⟩
  iapply Hk
  isplitl [Hc]; · iexact Hc
  isplitl [HO]; · iexact HO
  iexact Ha

/-- A tile computed and sent, and the next tile of w called for. -/
theorem wp_step (w : Fin 3) (h : Fin 2) (a a' : Fin 4) (ha : a = w.castSucc) (ha' : a' = w.succ) (t : Fin 6) (ht : t = tn w h) (q : Fin 4) (hq : q = sq w h)
    (acc : F .f32) (before : TC F PUnit) (l : List (Dev nD × CK)) (hl : ∀ x ∈ ((fw c w.castSucc, CK.rcv w h) :: l), 0 < lvK (some x.2)) (B R : sProp 𝕄)
    (hb : ∀ Q : PUnit → sProp 𝕄, iprop(Ow c ((fw c w.castSucc, .rcv w h) :: l) ∗ B)
      ⊢ iprop((((∃ f, ptC (F := F) c (slotC q) f) ∗ Ow c ((fw c w.castSucc, .rcv w h) :: l) ∗ R) -∗ Q ⟨⟩) -∗ WP c before Q))
    (Q : F .f32 → sProp 𝕄) :
    iprop(Ctx X W K ∗ ptX c (X c) ∗ four (wOn W c a h) ∗ Ow c ((fw c w.castSucc, .rcv w h) :: l) ∗ B ∗ sendKit (F := F) c w h)
      ⊢ iprop(((ptX c (X c) ∗ four (wOn W c a' h) ∗ Ow c l ∗ R ∗ cred (tallyAt (cell c (.snd w h)) () NT)) -∗ Q (accStep X W c acc (a, h)))
        -∗ WP c (wWait c a h) fun _ => WP c (mm q h acc before) fun v => WP c (send c w h t q) fun _ => WP c (wStart c a' h) fun _ => Q v) := by
  subst ha ha'
  unfold sendKit accStep
  dsimp only
  iintro ⟨#HC, HX, HW, HO, HB, HS, T1, T2⟩ Hk
  iapply (wp_wWait W c w.castSucc h _ hl) $$ [HW HO]
  · isplitr; · iapply (ctx_lev X W K); iexact HC
    isplitl [HW]; · iexact HW
    iexact HO
  iintro ⟨HW, Hw, HO⟩
  iapply (wp_mm c q h acc before (X c) (wTile W c (fw c w.castSucc) h) _ _ hb) $$ [HX Hw HO HB]
  · isplitl [HX]; · iexact HX
    isplitl [Hw]; · iexact Hw
    isplitl [HO]; · iexact HO
    iexact HB
  iintro ⟨HX, Hw, Hc, HO, HR⟩
  iapply (wp_send X W K c w h t ht q hq l) $$ [HO Hc HS T1 T2]
  · isplitr; · iexact HC
    isplitl [HO]; · iexact HO
    isplitl [Hc]; · iexact Hc
    isplitl [HS]; · iexact HS
    isplitl [T1]; · iexact T1
    iexact T2
  iintro ⟨Hcr, HO⟩
  iapply (wp_wStart W c w.succ h) $$ [HW Hw]
  · isplitl [HW]; · iexact HW
    iexists _; iexact Hw
  iintro HW
  iapply Hk
  isplitl [HX]; · iexact HX
  isplitl [HW]; · iexact HW
  isplitl [HO]; · iexact HO
  isplitl [HR]; · iexact HR
  iexact Hcr

/-- The device's own tile. -/
theorem wp_own (h h' : Fin 2) (w : Fin 3) (t : Fin 6) (ht : t = tn w h) (q : Fin 4) (hq : q = sq w h)
    (acc : F .f32) (l : List (Dev nD × CK)) (hl : ∀ x ∈ l, 0 < lvK (some x.2)) (Q : F .f32 → sProp 𝕄) :
    iprop(Ctx X W K ∗ ptX c (X c) ∗ four (wOn W c 3 h) ∗ Ow c l ∗ sentKit c w h)
      ⊢ iprop(((ptX c (X c) ∗ four (wOff W c h) ∗ (∃ f, ptW (F := F) c (slotW h) f) ∗ ptC c (slotC q) (cG (tl X W c c h)) ∗ Ow c l ∗ past c (.snd w h)) -∗ Q (accStep X W c acc (3, h)))
        -∗ WP c (wWait c 3 h) fun _ => WP c (mm q h acc (sent c h' t q)) Q) := by
  unfold accStep
  dsimp only
  iintro ⟨#HC, HX, HW, HO, HK⟩ Hk
  iapply (wp_wWait W c 3 h _ hl) $$ [HW HO]
  · isplitr; · iapply (ctx_lev X W K); iexact HC
    isplitl [HW]; · iexact HW
    iexact HO
  iintro ⟨HW, Hw, HO⟩
  iapply (wp_mm c q h acc (sent c h' t q) (X c) (wTile W c (fw c 3) h) _ _ (free_sent X W K c w h h' t ht q hq l hl)) $$ [HX Hw HO HK]
  · isplitl [HX]; · iexact HX
    isplitl [Hw]; · iexact Hw
    isplitl [HO]; · iexact HO
    isplitr; · iexact HC
    iexact HK
  iintro ⟨HX, Hw, Hc, HO, HR⟩
  iapply Hk
  isplitl [HX]; · iexact HX
  isplitl [HW]; · iexact HW
  isplitl [Hw]
  · iexists _; iexact Hw
  isplitl [Hc]
  · unfold tl
    rw [fw_last]
    iexact Hc
  isplitl [HO]; · iexact HO
  iexact HR

/-! ## The maxima -/

/-- What the exchange with distance `j + 1` needs: the place, the duties, and what the two waits need. -/
def maxKit (j : Fin 3) : sProp 𝕄 :=
  iprop((∃ f, ptM (F := F) (fw c j.castSucc) (slotM c) fullShare f) ∗ dutyTok ER (cell c (.xs j)) 0 0 ∗ dutyTok ER (cell (fw c j.castSucc) (.xr j)) 0 0)
/-- What waiting for a maximum to have left takes. -/
def maxWaits (j : Fin 3) : sProp 𝕄 :=
  iprop(atPos ER (cell c (.xs j)) 0 ∅ 0 ∗ cred (tallyAt (cell c (.xr j)) () NM) ∗ atPos ER (cell c (.xr j)) 0 ∅ 0)

/-- Sending the own maximum to all others. -/
theorem wp_maxOut (j : Fin 3) (l : List (Dev nD × CK)) (Q : PUnit → sProp 𝕄) :
    iprop(Ctx X W K ∗ Ow c ((fw c j.castSucc, .xr j) :: l) ∗ ptM c (slotM c) (mShare j) (mAll X W) ∗ maxKit (F := F) c j)
      ⊢ iprop(((cred (tallyAt (cell c (.xs j)) () NM) ∗ Ow c l) -∗ Q ⟨⟩) -∗ WP c (maxSend c j) Q) := by
  unfold maxKit
  iintro ⟨HC, HO, HM, HS, T1, T2⟩
  iapply (wp_maxSend X W K c j l Q)
  isplitl [HC]; · iexact HC
  isplitl [HO]; · iexact HO
  isplitl [HM]; · iexact HM
  isplitl [HS]; · iexact HS
  isplitl [T1]; · iexact T1
  iexact T2

/-- The four slots of the maxima make up the whole. -/
theorem maxima_cut : (Finset.univ : Finset S4x8x128.Idx) = Finset.univ.biUnion (fun w => slotM (bk c w))
    ∧ ∀ t t', t ≠ t' → Disjoint (slotM (bk c t)) (slotM (bk c t')) := by
  refine ⟨Finset.ext fun i => ?_, fun t t' h => box_apart S4x8x128 (0 : Fin 3) ?_⟩
  · rw [Finset.mem_biUnion]
    refine ⟨fun _ => ?_, fun _ => Finset.mem_univ _⟩
    have h0 : (i 0).val < 4 := (i 0).isLt
    have h1 : (i 1).val < 8 := (i 1).isLt
    have h2 : (i 2).val < 128 := (i 2).isLt
    obtain ⟨w, hw⟩ := bk_onto c ⟨(i 0).val, h0⟩
    refine ⟨w, Finset.mem_univ _, ?_⟩
    rw [hw]
    exact mem_box3.mpr ⟨⟨le_refl _, Nat.lt_succ_self _⟩, ⟨Nat.zero_le _, by omega⟩, Nat.zero_le _, by omega⟩
  · show (bk c t).val + 1 ≤ (bk c t').val ∨ (bk c t').val + 1 ≤ (bk c t).val
    have : (bk c t).val ≠ (bk c t').val := fun e => h (bk_inj c (Fin.ext e))
    omega
/-- The maxima held whole are the four slots held. -/
theorem maxima_four (q : PosShare TreeShare) (f : Vec F S4x8x128 .f32) :
    (ptM c Finset.univ q f : sProp 𝕄) = four fun w => ptM c (slotM (bk c w)) q f :=
  quarter ((c : Thread nD τ).loc cc0_scratch2) _ (fun w => slotM (bk c w)) (maxima_cut c).1 (maxima_cut c).2 _ _

/-- The own slot dealt to the three sends. -/
theorem maxima_deal (f : Vec F S4x8x128 .f32) : (ptM c (slotM c) fullShare f : sProp 𝕄)
    ⊣⊢ iprop(ptM c (slotM c) (Transfers.shareDrop fullShare 3) f ∗ ptM c (slotM c) (mShare 0) f ∗ ptM c (slotM c) (mShare 1) f ∗ ptM c (slotM c) (mShare 2) f) := by
  have h := Transfers.pointsTo_toks (nD := nD) (τ := τ) (sig := sig) (Ix := Unit) (Val := Elt F) (Name := ℕ) (U := UU) (Lvl := ℕ) (ℓ := (c : Thread nD τ).loc cc0_scratch2) (S := slotM c) (f := f) fullShare 3
  rw [bigSep_univ_eq_bigSepL [(0 : Fin 3), 1, 2] (by decide) (by decide), bigSepL_cons_cons, bigSepL_cons_cons, bigSepL_singleton] at h
  exact h

/-- The maxima exchanged and read. -/
theorem wp_maxima (v : F .f32) (hv : v = amx X W c) (Q : Vec F S4x8x128 .f32 → sProp 𝕄) :
    iprop(Ctx X W K ∗ Ow c [(fw c 0, .xr 0), (fw c 1, .xr 1), (fw c 2, .xr 2)] ∗ (∃ f, ptM (F := F) c (slotM c) fullShare f)
        ∗ (maxKit (F := F) c 0 ∗ maxKit (F := F) c 1 ∗ maxKit (F := F) c 2) ∗ (maxWaits (F := F) c 0 ∗ maxWaits (F := F) c 1 ∗ maxWaits (F := F) c 2))
      ⊢ iprop(((ptM c Finset.univ fullShare (mAll X W) ∗ Ow c [] ∗ (past c (.xs 0) ∗ past c (.xs 1) ∗ past c (.xs 2)) ∗ (past c (.xr 0) ∗ past c (.xr 1) ∗ past c (.xr 2)))
          -∗ Q (mAll X W)) -∗ WP c (maxima c v) Q) := by
  unfold maxWaits
  iintro ⟨#HC, HO, HM, ⟨K0, K1, K2⟩, ⟨S0, C0, R0⟩, ⟨S1, C1, R1⟩, ⟨S2, C2, R2⟩⟩ Hk
  unfold maxima WP
  simp only [wp_bind]
  iapply (wp_maxPut X W c v hv) $$ HM
  iintro HM
  ihave HM' := (maxima_deal c (mAll X W)).1 $$ HM
  icases HM' with ⟨MD, M0, M1, M2⟩
  iapply (wp_maxOut X W K c 0) $$ [HO M0 K0]
  · isplitr; · iexact HC
    isplitl [HO]; · iexact HO
    isplitl [M0]; · iexact M0
    iexact K0
  iintro ⟨D0, HO⟩
  iapply (wp_maxOut X W K c 1) $$ [HO M1 K1]
  · isplitr; · iexact HC
    isplitl [HO]; · iexact HO
    isplitl [M1]; · iexact M1
    iexact K1
  iintro ⟨D1, HO⟩
  iapply (wp_maxOut X W K c 2) $$ [HO M2 K2]
  · isplitr; · iexact HC
    isplitl [HO]; · iexact HO
    isplitl [M2]; · iexact M2
    iexact K2
  iintro ⟨D2, HO⟩
  iapply (wp_maxGot X W K c 0) $$ [HO C0 R0]
  · isplitr; · iexact HC
    isplitl [C0]; · iexact C0
    isplitl [R0]; · iexact R0
    iexact HO
  iintro ⟨G0, R0, HO⟩
  iapply (wp_maxGot X W K c 1) $$ [HO C1 R1]
  · isplitr; · iexact HC
    isplitl [C1]; · iexact C1
    isplitl [R1]; · iexact R1
    iexact HO
  iintro ⟨G1, R1, HO⟩
  iapply (wp_maxGot X W K c 2) $$ [HO C2 R2]
  · isplitr; · iexact HC
    isplitl [C2]; · iexact C2
    isplitl [R2]; · iexact R2
    iexact HO
  iintro ⟨G2, R2, HO⟩
  iapply (wp_maxSent X W K c 0) $$ [HO D0 S0]
  · isplitr; · iexact HC
    isplitl [D0]; · iexact D0
    isplitl [S0]; · iexact S0
    iexact HO
  iintro ⟨M0, S0, HO⟩
  iapply (wp_maxSent X W K c 1) $$ [HO D1 S1]
  · isplitr; · iexact HC
    isplitl [D1]; · iexact D1
    isplitl [S1]; · iexact S1
    iexact HO
  iintro ⟨M1, S1, HO⟩
  iapply (wp_maxSent X W K c 2) $$ [HO D2 S2]
  · isplitr; · iexact HC
    isplitl [D2]; · iexact D2
    isplitl [S2]; · iexact S2
    iexact HO
  iintro ⟨M2, S2, HO⟩
  iapply (wp_ldM X W c) $$ [MD M0 M1 M2 G0 G1 G2]
  · iapply (Entails.of_eq (maxima_four c fullShare (mAll X W)).symm)
    isplitl [MD M0 M1 M2]
    · dsimp only
      rw [bk_zero]
      iapply (maxima_deal c (mAll X W)).2
      isplitl [MD]; · iexact MD
      isplitl [M0]; · iexact M0
      isplitl [M1]; · iexact M1
      iexact M2
    isplitl [G0]; · iexact G0
    isplitl [G1]; · iexact G1
    iexact G2
  iintro HM
  iapply Hk
  isplitl [HM]; · iexact HM
  isplitl [HO]; · iexact HO
  isplitl [S0 S1 S2]
  · isplitl [S0]; · iexact S0
    isplitl [S1]; · iexact S1
    iexact S2
  isplitl [R0]; · iexact R0
  isplitl [R1]; · iexact R1
  iexact R2

/-! ## Finishing a tile -/

/-- Half `h` between two tiles: the tile of device `bk c w` in its comm slot, all else at rest. -/
def idle (w : Fin 4) (h : Fin 2) : sProp 𝕄 :=
  iprop(ptC c (slotC (hq h)) (cG (tl X W (bk c w) c h)) ∗ (∃ f, ptW (F := F) c (topW h) f) ∗ four (oOff (F := F) c h) ∗ four (iOff (F := F) c h))
/-- Half `h` with the finished tile of `bk c w` going out and the tile of `bk c w'` coming in. -/
def busy (w w' : Fin 4) (h : Fin 2) : sProp 𝕄 := iprop(four (oOn W X c w h) ∗ four (iOn W X c w' h))

/-- A finished tile sent off. -/
theorem wp_emit (w : Fin 4) (h : Fin 2) (s : Fin 2) (hs : s = h) (q : Fin 4) (hq' : q = hq h) (Q : PUnit → sProp 𝕄) :
    iprop(idle X W c w h ∗ ∃ f, ptR (F := F) c (tileS (bk c w) h) f)
      ⊢ iprop(((four (oOn W X c w h) ∗ four (iOff (F := F) c h) ∗ ∃ f, ptC (F := F) c (slotC (hq h)) f) -∗ Q ⟨⟩)
        -∗ WP c (quant s q (scl X W) (inv X W)) fun _ => WP c (oStart c w h) Q) := by
  subst hs hq'
  unfold idle
  iintro ⟨⟨HC, HW, HO, HI⟩, HR⟩ Hk
  iapply (wp_quant c s (hq s) (scl X W) (inv X W) (tl X W (bk c w) c s)) $$ [HC HW]
  · isplitl [HC]; · iexact HC
    iexact HW
  iintro ⟨HC, HW⟩
  iapply (wp_oStart W X c w s) $$ [HO HW HR]
  · isplitl [HO]; · iexact HO
    isplitl [HW]; · iexact HW
    iexact HR
  iintro HO
  iapply Hk
  isplitl [HO]; · iexact HO
  isplitl [HI]; · iexact HI
  iexists _; iexact HC

/-- A finished tile sent off, the next one waited for and called in. -/
theorem wp_pass (w : Fin 3) (h : Fin 2) (a a' : Fin 4) (ha : a = w.castSucc) (ha' : a' = w.succ) (s : Fin 2) (hs : s = h) (q : Fin 4) (hq' : q = hq h) (Q : PUnit → sProp 𝕄) :
    iprop(Ctx X W K ∗ idle X W c a h ∗ (∃ f, ptR (F := F) c (tileS (bk c a) h) f) ∗ recvKit c w h ∗ Ow c [])
      ⊢ iprop(((busy X W c a a' h ∗ past c (.rcv w h) ∗ Ow c []) -∗ Q ⟨⟩)
        -∗ WP c (quant s q (scl X W) (inv X W)) fun _ => WP c (oStart c a h) fun _ => WP c (recvd c w h) fun _ => WP c (iStart c a' h) Q) := by
  subst ha ha'
  unfold recvKit busy
  iintro ⟨#HC, HI, HR, ⟨K1, K2⟩, HO⟩ Hk
  iapply (wp_emit X W c w.castSucc h s hs q hq') $$ [HI HR]
  · isplitl [HI]; · iexact HI
    iexact HR
  iintro ⟨Ho, Hi, Hc⟩
  iapply (wp_recvd X W K c w h) $$ [K1 K2 HO]
  · isplitr; · iexact HC
    isplitl [K1]; · iexact K1
    isplitl [K2]; · iexact K2
    iexact HO
  iintro ⟨HS, Ha, HO⟩
  iapply (wp_iStart W X c w.succ h) $$ [Hi HS Hc]
  · isplitl [Hi]; · iexact Hi
    isplitl [HS]; · iexact HS
    iexact Hc
  iintro Hi
  iapply Hk
  isplitl [Ho Hi]
  · isplitl [Ho]; · iexact Ho
    iexact Hi
  isplitl [Ha]; · iexact Ha
  iexact HO

/-- Both under way waited for. -/
theorem wp_turn (w w' : Fin 4) (h : Fin 2) (Q : PUnit → sProp 𝕄) :
    iprop(busy X W c w w' h ∗ Ow c [])
      ⊢ iprop(((idle X W c w' h ∗ ptR c (tileS (bk c w) h) (outAll X W c) ∗ (∃ f, ptS (F := F) c (tileS (bk c w') h) f) ∗ Ow c []) -∗ Q ⟨⟩)
        -∗ WP c (iWait c w' h) fun _ => WP c (oWait c w h) Q) := by
  unfold busy idle
  iintro ⟨⟨Ho, Hi⟩, HO⟩ Hk
  iapply (wp_iWait W X c w' h) $$ [Hi HO]
  · isplitl [Hi]; · iexact Hi
    iexact HO
  iintro ⟨Hi, Hc, HS, HO⟩
  iapply (wp_oWait W X c w h) $$ [Ho HO]
  · isplitl [Ho]; · iexact Ho
    iexact HO
  iintro ⟨Ho, HR, HW, HO⟩
  iapply Hk
  isplitl [Hc HW Ho Hi]
  · isplitl [Hc]; · iexact Hc
    isplitl [HW]; · iexact HW
    isplitl [Ho]; · iexact Ho
    iexact Hi
  isplitl [HR]; · iexact HR
  isplitl [HS]
  · iexists _; iexact HS
  iexact HO

end Rules

end Cert.KernelIdeal.Coll

end
-- ==== Proof.KernelIdeal.Cuts.lean ====
/-
  The device's arrays cut into the pieces the program works on, and put together again.
-/
module

public import proofs.«01_k».proof.Proof.KernelIdeal.Stage

@[expose] public section

set_option maxRecDepth 65536

noncomputable section

namespace Cert.KernelIdeal.Coll

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal Cert.KernelIdeal.Gen

variable {F : FTy → Type} [FloatOps F]

local notation "𝕄" => MT nD τ sig Unit (Elt F) ℕ UU ℕ

/-- Two pieces of unknown contents put together. -/
theorem glue (ℓ : Loc nD τ sig) (S I J : Finset (Idx ℓ)) (hS : I ∪ J = S) (hd : Disjoint I J) (q : PosShare TreeShare) :
    iprop((∃ f : Buf (Elt F) ℓ, ℓ ↦[I]{q} f) ∗ ∃ f : Buf (Elt F) ℓ, ℓ ↦[J]{q} f) ⊢ (iprop(∃ f : Buf (Elt F) ℓ, ℓ ↦[S]{q} f) : sProp 𝕄) := by
  subst hS
  iintro ⟨⟨%f, H1⟩, ⟨%g, H2⟩⟩
  iexists _
  iapply (pointsTo_join hd) $$ [H1 H2]
  isplitl [H1]; · iexact H1
  iexact H2

/-- The union of four sets, written out. -/
theorem union_four {α : Type} [DecidableEq α] (K : Fin 4 → Finset α) : K 0 ∪ (K 1 ∪ (K 2 ∪ K 3)) = Finset.univ.biUnion K := by
  ext i
  simp only [Finset.mem_union, Finset.mem_biUnion, Finset.mem_univ, true_and]
  constructor
  · rintro (h | h | h | h)
    · exact ⟨0, h⟩
    · exact ⟨1, h⟩
    · exact ⟨2, h⟩
    · exact ⟨3, h⟩
  · rintro ⟨j, h⟩
    fin_cases j
    · exact Or.inl h
    · exact Or.inr (Or.inl h)
    · exact Or.inr (Or.inr (Or.inl h))
    · exact Or.inr (Or.inr (Or.inr h))

/-- Four pieces put together. -/
theorem glue4 (ℓ : Loc nD τ sig) (S : Finset (Idx ℓ)) (K : Fin 4 → Finset (Idx ℓ)) (hS : S = Finset.univ.biUnion K)
    (hd : ∀ t t', t ≠ t' → Disjoint (K t) (K t')) (q : PosShare TreeShare) :
    four (fun j => iprop(∃ f : Buf (Elt F) ℓ, ℓ ↦[K j]{q} f)) ⊢ (iprop(∃ f : Buf (Elt F) ℓ, ℓ ↦[S]{q} f) : sProp 𝕄) := by
  iintro ⟨H0, H1, H2, H3⟩
  iapply (glue ℓ S (K 0) (K 1 ∪ (K 2 ∪ K 3)) (by rw [hS, union_four])
    (Finset.disjoint_union_right.mpr ⟨hd _ _ (by decide), Finset.disjoint_union_right.mpr ⟨hd _ _ (by decide), hd _ _ (by decide)⟩⟩) q)
  isplitl [H0]; · iexact H0
  iapply (glue ℓ _ (K 1) (K 2 ∪ K 3) rfl (Finset.disjoint_union_right.mpr ⟨hd _ _ (by decide), hd _ _ (by decide)⟩) q)
  isplitl [H1]; · iexact H1
  iapply (glue ℓ _ (K 2) (K 3) rfl (hd _ _ (by decide)) q)
  isplitl [H2]; · iexact H2
  iexact H3

/-! ## The comm slots -/

/-- The four comm slots make up the comm buffers and do not meet. -/
theorem comm_cut : (Finset.univ : Finset S4x1024x1024.Idx) = Finset.univ.biUnion slotC ∧ ∀ t t', t ≠ t' → Disjoint (slotC t) (slotC t') := by
  refine ⟨Finset.ext fun i => ?_, fun t t' h => box_apart S4x1024x1024 (0 : Fin 3) ?_⟩
  · rw [Finset.mem_biUnion]
    refine ⟨fun _ => ?_, fun _ => Finset.mem_univ _⟩
    have h0 : (i 0).val < 4 := (i 0).isLt
    have h1 : (i 1).val < 1024 := (i 1).isLt
    have h2 : (i 2).val < 1024 := (i 2).isLt
    exact ⟨⟨(i 0).val, h0⟩, Finset.mem_univ _, mem_box3.mpr ⟨⟨le_refl _, Nat.lt_succ_self _⟩, ⟨Nat.zero_le _, by omega⟩, Nat.zero_le _, by omega⟩⟩
  · show t.val + 1 ≤ t'.val ∨ t'.val + 1 ≤ t.val
    have : t.val ≠ t'.val := fun e => h (Fin.ext e)
    omega
/-- The comm buffers held whole are the four slots held. -/
theorem comm_four (c : Dev nD) (f : Vec F S4x1024x1024 .bf16) : (ptC c Finset.univ f : sProp 𝕄) = four fun q => ptC c (slotC q) f :=
  quarter ((c : Thread nD τ).loc cc0_scratch1) _ slotC comm_cut.1 comm_cut.2 _ _
/-- The comm buffers, taken apart into slots. -/
theorem comm_split (c : Dev nD) : iprop(∃ f, ptC (F := F) c Finset.univ f) ⊢ four fun q => iprop(∃ f, ptC (F := F) c (slotC q) f) := by
  iintro ⟨%f, H⟩
  ihave H' := (Entails.of_eq (comm_four c f)) $$ H
  icases H' with ⟨H0, H1, H2, H3⟩
  isplitl [H0]; · iexists f; iexact H0
  isplitl [H1]; · iexists f; iexact H1
  isplitl [H2]; · iexists f; iexact H2
  iexists f; iexact H3
/-- The slots, put together into the comm buffers. -/
theorem comm_join (c : Dev nD) : (four fun q => iprop(∃ f, ptC (F := F) c (slotC q) f)) ⊢ iprop(∃ f, ptC (F := F) c Finset.univ f) :=
  glue4 ((c : Thread nD τ).loc cc0_scratch1) _ slotC comm_cut.1 comm_cut.2 fullShare

/-! ## The w slots -/

/-- The two w slots make up the w buffers. -/
theorem w_union : slotW 0 ∪ slotW 1 = Finset.univ := by
  ext i
  rw [Finset.mem_union]
  refine ⟨fun _ => Finset.mem_univ _, fun _ => ?_⟩
  have h0 : (i 0).val < 2 := (i 0).isLt
  have h1 : (i 1).val < 4096 := (i 1).isLt
  have h2 : (i 2).val < 1024 := (i 2).isLt
  rcases Nat.lt_or_ge (i 0).val 1 with h | h
  · exact Or.inl (mem_box3.mpr ⟨⟨Nat.zero_le _, by omega⟩, ⟨Nat.zero_le _, by omega⟩, Nat.zero_le _, by omega⟩)
  · exact Or.inr (mem_box3.mpr ⟨⟨h, by omega⟩, ⟨Nat.zero_le _, by omega⟩, Nat.zero_le _, by omega⟩)
/-- The two w slots do not meet. -/
theorem w_apart : Disjoint (slotW 0) (slotW 1) := box_apart S2x4096x1024 (0 : Fin 3) (Or.inl (le_refl _))

/-- The w buffers, taken apart into slots. -/
theorem w_split (c : Dev nD) : iprop(∃ f, ptW (F := F) c Finset.univ f) ⊢ iprop((∃ f, ptW (F := F) c (slotW 0) f) ∗ ∃ f, ptW (F := F) c (slotW 1) f) := by
  iintro ⟨%f, H⟩
  ihave H' := (pointsTo_split_subset (Finset.subset_univ (slotW 0))).1 $$ H
  rw [show (Finset.univ : Finset S2x4096x1024.Idx) \ slotW 0 = slotW 1 by rw [← w_union]; exact Finset.union_sdiff_cancel_left w_apart]
  icases H' with ⟨H0, H1⟩
  isplitl [H0]
  · iexists f; iexact H0
  iexists f; iexact H1
/-- The slots, put together into the w buffers. -/
theorem w_join (c : Dev nD) : iprop((∃ f, ptW (F := F) c (slotW 0) f) ∗ ∃ f, ptW (F := F) c (slotW 1) f) ⊢ iprop(∃ f, ptW (F := F) c Finset.univ f) :=
  glue ((c : Thread nD τ).loc cc0_scratch0) _ _ _ w_union w_apart fullShare

/-- The upper quarter of a w slot is part of it. -/
theorem top_sub (h : Fin 2) : topW h ⊆ slotW h := fun i hi => by
  obtain ⟨⟨a0, a1⟩, ⟨b0, b1⟩, c0, c1⟩ := mem_box3.mp hi
  exact mem_box3.mpr ⟨⟨a0, a1⟩, ⟨b0, by omega⟩, c0, c1⟩
/-- A w slot, taken apart into its upper quarter and the rest. -/
theorem top_split (c : Dev nD) (h : Fin 2) : iprop(∃ f, ptW (F := F) c (slotW h) f)
    ⊢ iprop((∃ f, ptW (F := F) c (topW h) f) ∗ ∃ f, ptW (F := F) c (slotW h \ topW h) f) := by
  iintro ⟨%f, H⟩
  ihave H' := (pointsTo_split_subset (top_sub h)).1 $$ H
  icases H' with ⟨H0, H1⟩
  isplitl [H0]
  · iexists f; iexact H0
  iexists f; iexact H1
/-- The upper quarter and the rest, put together into the w slot. -/
theorem top_join (c : Dev nD) (h : Fin 2) : iprop((∃ f, ptW (F := F) c (topW h) f) ∗ ∃ f, ptW (F := F) c (slotW h \ topW h) f)
    ⊢ iprop(∃ f, ptW (F := F) c (slotW h) f) :=
  glue ((c : Thread nD τ).loc cc0_scratch0) _ _ _ (Finset.union_sdiff_of_subset (top_sub h)) Finset.disjoint_sdiff fullShare

/-! ## The tiles -/

/-- The eight tiles make up the array and do not meet. -/
theorem tiles_cut (c : Dev nD) : (Finset.univ : Finset S4096x2048.Idx) = Finset.univ.biUnion (fun p : Fin 4 × Fin 2 => tileS (bk c p.1) p.2)
    ∧ ∀ t t' : Fin 4 × Fin 2, t ≠ t' → Disjoint (tileS (bk c t.1) t.2) (tileS (bk c t'.1) t'.2) := by
  refine ⟨Finset.ext fun i => ?_, fun t t' h => ?_⟩
  · rw [Finset.mem_biUnion]
    refine ⟨fun _ => ?_, fun _ => Finset.mem_univ _⟩
    have h0 : (i 0).val < 4096 := (i 0).isLt
    have h1 : (i 1).val < 2048 := (i 1).isLt
    obtain ⟨w, hw⟩ := bk_onto c (rowD i)
    refine ⟨(w, colH i), Finset.mem_univ _, ?_⟩
    dsimp only
    rw [hw]
    exact mem_box2.mpr ⟨⟨by show 1024 * ((i 0).val / 1024) ≤ _; omega, by show _ < 1024 * ((i 0).val / 1024) + 1024; omega⟩,
      by show 1024 * ((i 1).val / 1024) ≤ _; omega, by show _ < 1024 * ((i 1).val / 1024) + 1024; omega⟩
  · by_cases e : t.1 = t'.1
    · refine box_apart S4096x2048 (1 : Fin 2) ?_
      show 1024 * t.2.val + 1024 ≤ 1024 * t'.2.val ∨ 1024 * t'.2.val + 1024 ≤ 1024 * t.2.val
      have : t.2.val ≠ t'.2.val := fun e' => h (Prod.ext e (Fin.ext e'))
      omega
    · refine box_apart S4096x2048 (0 : Fin 2) ?_
      show 1024 * (bk c t.1).val + 1024 ≤ 1024 * (bk c t'.1).val ∨ 1024 * (bk c t'.1).val + 1024 ≤ 1024 * (bk c t.1).val
      have : (bk c t.1).val ≠ (bk c t'.1).val := fun e' => e (bk_inj c (Fin.ext e'))
      omega

/-- One thing for every distance and half. -/
abbrev eight (Φ : Fin 4 → Fin 2 → sProp 𝕄) : sProp 𝕄 := iprop(Φ 0 0 ∗ Φ 0 1 ∗ Φ 1 0 ∗ Φ 1 1 ∗ Φ 2 0 ∗ Φ 2 1 ∗ Φ 3 0 ∗ Φ 3 1)
/-- A separate conjunction over the eight tiles, written out. -/
theorem bigSep_eight (Φ : Fin 4 × Fin 2 → sProp 𝕄) : bigSep Finset.univ Φ = eight fun w h => Φ (w, h) :=
  bigSep_univ_eq_bigSepL [(0, 0), (0, 1), (1, 0), (1, 1), (2, 0), (2, 1), (3, 0), (3, 1)] (by decide) (by decide) Φ

/-- An array held whole is its eight tiles held. -/
theorem tiles (c : Dev nD) (ℓ : Loc nD τ sig) (hℓ : Idx ℓ = S4096x2048.Idx) (f : Buf (Elt F) ℓ) (K : Fin 4 × Fin 2 → Finset (Idx ℓ))
    (h1 : Finset.univ = Finset.univ.biUnion K) (h2 : ∀ t t', t ≠ t' → Disjoint (K t) (K t')) :
    (ℓ ↦[Finset.univ]{fullShare} f : sProp 𝕄) = eight fun w h => ℓ ↦[K (w, h)]{fullShare} f := by
  rw [h1, pointsTo_biUnion _ _ fun t _ t' _ => h2 t t', bigSep_eight]
/-- The stage array held whole is its eight tiles held. -/
theorem stage_tiles (c : Dev nD) (f : Vec F S4096x2048 .bf16) : (ptS c Finset.univ f : sProp 𝕄) = eight fun w h => ptS c (tileS (bk c w) h) f :=
  tiles c ((c : Thread nD τ).loc main_v1_1) rfl f (fun p : Fin 4 × Fin 2 => tileS (bk c p.1) p.2) (tiles_cut c).1 (tiles_cut c).2
/-- The result held whole is its eight tiles held. -/
theorem result_tiles (c : Dev nD) (f : Vec F S4096x2048 .f32) : (ptR c Finset.univ f : sProp 𝕄) = eight fun w h => ptR c (tileS (bk c w) h) f :=
  tiles c ((c : Thread nD τ).loc main_v1_0) rfl f (fun p : Fin 4 × Fin 2 => tileS (bk c p.1) p.2) (tiles_cut c).1 (tiles_cut c).2

/-! ## The shares of w -/

/-- w held whole is a share for each load and the rest. -/
theorem shares (c : Dev nD) (f : Vec F S4096x8192 .f32) : (ptA c Finset.univ fullShare f : sProp 𝕄)
    ⊣⊢ iprop(ptA c Finset.univ (Transfers.shareDrop fullShare 8) f ∗ ptA c Finset.univ (wShare 0 0) f ∗ ptA c Finset.univ (wShare 0 1) f ∗ ptA c Finset.univ (wShare 0 2) f
      ∗ ptA c Finset.univ (wShare 0 3) f ∗ ptA c Finset.univ (wShare 1 0) f ∗ ptA c Finset.univ (wShare 1 1) f ∗ ptA c Finset.univ (wShare 1 2) f ∗ ptA c Finset.univ (wShare 1 3) f) := by
  have h := Transfers.pointsTo_toks (nD := nD) (τ := τ) (sig := sig) (Ix := Unit) (Val := Elt F) (Name := ℕ) (U := UU) (Lvl := ℕ) (ℓ := (c : Thread nD τ).loc main_arg1) (S := Finset.univ) (f := f) fullShare 8
  rw [bigSep_univ_eq_bigSepL [(0 : Fin 8), 1, 2, 3, 4, 5, 6, 7] (by decide) (by decide), bigSepL_cons_cons, bigSepL_cons_cons, bigSepL_cons_cons, bigSepL_cons_cons,
    bigSepL_cons_cons, bigSepL_cons_cons, bigSepL_cons_cons, bigSepL_singleton] at h
  exact h

section Rules
variable (W : Dev nD → Vec F S4096x8192 .f32) (c : Dev nD)

/-- The semaphore of one copy into a w slot at zero. -/
def wRest (h : Fin 2) (j : Fin 4) : sProp 𝕄 := semVal ((c : Thread nD τ), SemLoc.dma (semW h j)) 0

/-- What the loads of w start with. -/
theorem w_ready : iprop(ptA c Finset.univ fullShare (W c) ∗ four (wRest (F := F) c 0) ∗ four (wRest (F := F) c 1))
    ⊢ iprop(ptA c Finset.univ (Transfers.shareDrop fullShare 8) (W c) ∗ four (wOff W c 0) ∗ four (wOff W c 1)) := by
  unfold wOff wRest
  iintro ⟨HA, ⟨S0, S1, S2, S3⟩, ⟨R0, R1, R2, R3⟩⟩
  ihave HA' := (shares c (W c)).1 $$ HA
  icases HA' with ⟨HD, A0, A1, A2, A3, B0, B1, B2, B3⟩
  isplitl [HD]; · iexact HD
  isplitl [S0 S1 S2 S3 A0 A1 A2 A3]
  · isplitl [S0 A0]; · isplitl [S0]; (· iexact S0); iexact A0
    isplitl [S1 A1]; · isplitl [S1]; (· iexact S1); iexact A1
    isplitl [S2 A2]; · isplitl [S2]; (· iexact S2); iexact A2
    isplitl [S3]; (· iexact S3); iexact A3
  isplitl [R0 B0]; · isplitl [R0]; (· iexact R0); iexact B0
  isplitl [R1 B1]; · isplitl [R1]; (· iexact R1); iexact B1
  isplitl [R2 B2]; · isplitl [R2]; (· iexact R2); iexact B2
  isplitl [R3]; (· iexact R3); iexact B3

/-- What the loads of w leave behind. -/
theorem w_over : iprop(ptA c Finset.univ (Transfers.shareDrop fullShare 8) (W c) ∗ four (wOff W c 0) ∗ four (wOff W c 1))
    ⊢ iprop(ptA c Finset.univ fullShare (W c) ∗ four (wRest (F := F) c 0) ∗ four (wRest (F := F) c 1)) := by
  unfold wOff wRest
  iintro ⟨HD, ⟨⟨S0, A0⟩, ⟨S1, A1⟩, ⟨S2, A2⟩, ⟨S3, A3⟩⟩, ⟨R0, B0⟩, ⟨R1, B1⟩, ⟨R2, B2⟩, ⟨R3, B3⟩⟩
  isplitl [HD A0 A1 A2 A3 B0 B1 B2 B3]
  · iapply (shares c (W c)).2
    isplitl [HD]; · iexact HD
    isplitl [A0]; · iexact A0
    isplitl [A1]; · iexact A1
    isplitl [A2]; · iexact A2
    isplitl [A3]; · iexact A3
    isplitl [B0]; · iexact B0
    isplitl [B1]; · iexact B1
    isplitl [B2]; · iexact B2
    iexact B3
  isplitl [S0 S1 S2 S3]
  · isplitl [S0]; · iexact S0
    isplitl [S1]; · iexact S1
    isplitl [S2]; · iexact S2
    iexact S3
  isplitl [R0]; · iexact R0
  isplitl [R1]; · iexact R1
  isplitl [R2]; · iexact R2
  iexact R3

end Rules

end Cert.KernelIdeal.Coll

end
-- ==== Proof.KernelIdeal.Run.lean ====
/-
  The whole program of one device: from the resources it starts with to the finished tiles.
-/
module

public import proofs.«01_k».proof.Proof.KernelIdeal.Cuts

@[expose] public section

set_option maxRecDepth 65536

noncomputable section

namespace Cert.KernelIdeal.Coll

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal Cert.KernelIdeal.Gen

variable {F : FTy → Type} [FloatOps F]

local notation "𝕄" => MT nD τ sig Unit (Elt F) ℕ UU ℕ

/-- One thing for every distance but the first and half; one for every distance but the first. -/
abbrev six (Φ : Fin 3 → Fin 2 → sProp 𝕄) : sProp 𝕄 := iprop(Φ 0 0 ∗ Φ 0 1 ∗ Φ 1 0 ∗ Φ 1 1 ∗ Φ 2 0 ∗ Φ 2 1)
/-- Three conjuncts. -/
abbrev three (Φ : Fin 3 → sProp 𝕄) : sProp 𝕄 := iprop(Φ 0 ∗ Φ 1 ∗ Φ 2)

/-- Everything owed after the barrier lies above the barrier. -/
theorem debts_lev (c : Dev nD) : ∀ x ∈ debts c, 1 < lvK (some x.2) := by revert c; decide
/-- Whatever is still owed of it lies above the local cells. -/
theorem debts_drop (c : Dev nD) (k : ℕ) : ∀ x ∈ (debts c).drop k, 0 < lvK (some x.2) :=
  fun x hx => Nat.lt_of_succ_lt (debts_lev c x (List.mem_of_mem_drop hx))

section Rules
variable (X : Dev nD → Vec F S1024x4096 .f32) (W : Dev nD → Vec F S4096x8192 .f32) (K : Dev nD × CK → ℕ) (c : Dev nD)

/-- The tiles computed and all but the own ones sent. -/
theorem wp_products (Q : F .f32 → sProp 𝕄) :
    iprop(Ctx X W K ∗ ptX c (X c) ∗ (four (wOn W c 0 0) ∗ four (wOn W c 0 1)) ∗ Ow c (debts c) ∗ (four fun q => iprop(∃ f, ptC (F := F) c (slotC q) f))
        ∗ six (sendKit (F := F) c)
        ∗ (atPos ER (cell c (.snd 0 0)) 0 ∅ 0 ∗ atPos ER (cell c (.snd 0 1)) 0 ∅ 0 ∗ atPos ER (cell c (.snd 1 0)) 0 ∅ 0 ∗ atPos ER (cell c (.snd 1 1)) 0 ∅ 0))
      ⊢ iprop(((ptX c (X c) ∗ (four (wOff W c 0) ∗ ∃ f, ptW (F := F) c (slotW 0) f) ∗ (four (wOff W c 1) ∗ ∃ f, ptW (F := F) c (slotW 1) f)
          ∗ (ptC c (slotC (hq 0)) (cG (tl X W c c 0)) ∗ ptC c (slotC (hq 1)) (cG (tl X W c c 1))) ∗ Ow c [(fw c 0, .xr 0), (fw c 1, .xr 1), (fw c 2, .xr 2)]
          ∗ (past c (.snd 0 0) ∗ past c (.snd 0 1) ∗ past c (.snd 1 0) ∗ past c (.snd 1 1))
          ∗ (cred (tallyAt (cell c (.snd 2 0)) () NT) ∗ cred (tallyAt (cell c (.snd 2 1)) () NT))) -∗ Q (amx X W c)) -∗ WP c (products c) Q) := by
  iintro ⟨#HC, HX, ⟨W0, W1⟩, HO, ⟨F0, F1, F2, F3⟩, ⟨K00, K01, K10, K11, K20, K21⟩, ⟨P00, P01, P10, P11⟩⟩ Hk
  simp only [amx, order, List.foldl_cons, List.foldl_nil]
  unfold products WP
  simp only [wp_bind]
  iapply (wp_step X W K c 0 0 0 1 rfl rfl 0 rfl 0 rfl _ (pure ⟨⟩) ((debts c).drop 1) (debts_drop c 0) _ _ (free_first c 0 (debts c))) $$ [HX W0 HO F0 K00]
  · isplitr; · iexact HC
    isplitl [HX]; · iexact HX
    isplitl [W0]; · iexact W0
    isplitl [HO]; · iexact HO
    isplitl [F0]; · iexact F0
    iexact K00
  iintro ⟨HX, W0, HO, -, C00⟩
  iapply (wp_step X W K c 0 1 0 1 rfl rfl 1 rfl 1 rfl _ (pure ⟨⟩) ((debts c).drop 2) (debts_drop c 1) _ _ (free_first c 1 ((debts c).drop 1))) $$ [HX W1 HO F1 K01]
  · isplitr; · iexact HC
    isplitl [HX]; · iexact HX
    isplitl [W1]; · iexact W1
    isplitl [HO]; · iexact HO
    isplitl [F1]; · iexact F1
    iexact K01
  iintro ⟨HX, W1, HO, -, C01⟩
  iapply (wp_step X W K c 1 0 1 2 rfl rfl 2 rfl 2 rfl _ (pure ⟨⟩) ((debts c).drop 3) (debts_drop c 2) _ _ (free_first c 2 ((debts c).drop 2))) $$ [HX W0 HO F2 K10]
  · isplitr; · iexact HC
    isplitl [HX]; · iexact HX
    isplitl [W0]; · iexact W0
    isplitl [HO]; · iexact HO
    isplitl [F2]; · iexact F2
    iexact K10
  iintro ⟨HX, W0, HO, -, C10⟩
  iapply (wp_step X W K c 1 1 1 2 rfl rfl 3 rfl 3 rfl _ (pure ⟨⟩) ((debts c).drop 4) (debts_drop c 3) _ _ (free_first c 3 ((debts c).drop 3))) $$ [HX W1 HO F3 K11]
  · isplitr; · iexact HC
    isplitl [HX]; · iexact HX
    isplitl [W1]; · iexact W1
    isplitl [HO]; · iexact HO
    isplitl [F3]; · iexact F3
    iexact K11
  iintro ⟨HX, W1, HO, -, C11⟩
  iapply (wp_step X W K c 2 0 2 3 rfl rfl 4 rfl 0 rfl _ (sent c 0 0 0) ((debts c).drop 5) (debts_drop c 4) _ _
    (free_sent X W K c 0 0 0 0 rfl 0 rfl ((debts c).drop 4) (debts_drop c 4))) $$ [HX W0 HO C00 P00 K20]
  · isplitr; · iexact HC
    isplitl [HX]; · iexact HX
    isplitl [W0]; · iexact W0
    isplitl [HO]; · iexact HO
    isplitl [C00 P00]
    · isplitr; · iexact HC
      unfold sentKit
      isplitl [C00]; · iexact C00
      iexact P00
    iexact K20
  iintro ⟨HX, W0, HO, P00, C20⟩
  iapply (wp_step X W K c 2 1 2 3 rfl rfl 5 rfl 1 rfl _ (sent c 1 1 1) ((debts c).drop 6) (debts_drop c 5) _ _
    (free_sent X W K c 0 1 1 1 rfl 1 rfl ((debts c).drop 5) (debts_drop c 5))) $$ [HX W1 HO C01 P01 K21]
  · isplitr; · iexact HC
    isplitl [HX]; · iexact HX
    isplitl [W1]; · iexact W1
    isplitl [HO]; · iexact HO
    isplitl [C01 P01]
    · isplitr; · iexact HC
      unfold sentKit
      isplitl [C01]; · iexact C01
      iexact P01
    iexact K21
  iintro ⟨HX, W1, HO, P01, C21⟩
  iapply (wp_own X W K c 0 0 1 2 rfl 2 rfl _ ((debts c).drop 6) (debts_drop c 6)) $$ [HX W0 HO C10 P10]
  · isplitr; · iexact HC
    isplitl [HX]; · iexact HX
    isplitl [W0]; · iexact W0
    isplitl [HO]; · iexact HO
    unfold sentKit
    isplitl [C10]; · iexact C10
    iexact P10
  iintro ⟨HX, W0, w0, T0, HO, P10⟩
  iapply (wp_own X W K c 1 1 1 3 rfl 3 rfl _ ((debts c).drop 6) (debts_drop c 6)) $$ [HX W1 HO C11 P11]
  · isplitr; · iexact HC
    isplitl [HX]; · iexact HX
    isplitl [W1]; · iexact W1
    isplitl [HO]; · iexact HO
    unfold sentKit
    isplitl [C11]; · iexact C11
    iexact P11
  iintro ⟨HX, W1, w1, T1, HO, P11⟩
  iapply Hk
  isplitl [HX]; · iexact HX
  isplitl [W0 w0]
  · isplitl [W0]; · iexact W0
    iexact w0
  isplitl [W1 w1]
  · isplitl [W1]; · iexact W1
    iexact w1
  isplitl [T0 T1]
  · isplitl [T0]; · iexact T0
    iexact T1
  isplitl [HO]; · iexact HO
  isplitl [P00 P01 P10 P11]
  · isplitl [P00]; · iexact P00
    isplitl [P01]; · iexact P01
    isplitl [P10]; · iexact P10
    iexact P11
  isplitl [C20]; · iexact C20
  iexact C21

/-- The tiles finished as they arrive. -/
theorem wp_finish (Q : PUnit → sProp 𝕄) :
    iprop(Ctx X W K ∗ (idle X W c 0 0 ∗ idle X W c 0 1) ∗ (eight fun w h => iprop(∃ f, ptR (F := F) c (tileS (bk c w) h) f)) ∗ six (recvKit (F := F) c)
        ∗ (sentKit (F := F) c 2 0 ∗ sentKit (F := F) c 2 1) ∗ Ow c [])
      ⊢ iprop(((((four (oOff (F := F) c 0) ∗ four (oOff (F := F) c 1)) ∗ (four (iOff (F := F) c 0) ∗ four (iOff (F := F) c 1)))
          ∗ (four fun q => iprop(∃ f, ptC (F := F) c (slotC q) f)) ∗ ((∃ f, ptW (F := F) c (topW 0) f) ∗ ∃ f, ptW (F := F) c (topW 1) f)
          ∗ (eight fun w h => ptR c (tileS (bk c w) h) (outAll X W c)) ∗ six (fun w h => past (F := F) c (.rcv w h)) ∗ (past c (.snd 2 0) ∗ past c (.snd 2 1)) ∗ Ow c [])
          -∗ Q ⟨⟩) -∗ WP c (finish c (scl X W) (inv X W)) Q) := by
  iintro ⟨#HC, ⟨I0, I1⟩, ⟨R00, R01, R10, R11, R20, R21, R30, R31⟩, ⟨K00, K01, K10, K11, K20, K21⟩, ⟨S0, S1⟩, HO⟩ Hk
  unfold finish WP
  simp only [wp_bind]
  iapply (wp_pass X W K c 0 0 0 1 rfl rfl 0 rfl 2 rfl) $$ [I0 R00 K00 HO]
  · isplitr; · iexact HC
    isplitl [I0]; · iexact I0
    isplitl [R00]; · iexact R00
    isplitl [K00]; · iexact K00
    iexact HO
  iintro ⟨I0, P00, HO⟩
  iapply (wp_pass X W K c 0 1 0 1 rfl rfl 1 rfl 3 rfl) $$ [I1 R01 K01 HO]
  · isplitr; · iexact HC
    isplitl [I1]; · iexact I1
    isplitl [R01]; · iexact R01
    isplitl [K01]; · iexact K01
    iexact HO
  iintro ⟨I1, P01, HO⟩
  iapply (wp_turn X W c 0 1 0) $$ [I0 HO]
  · isplitl [I0]; · iexact I0
    iexact HO
  iintro ⟨I0, R00, -, HO⟩
  iapply (wp_pass X W K c 1 0 1 2 rfl rfl 0 rfl 2 rfl) $$ [I0 R10 K10 HO]
  · isplitr; · iexact HC
    isplitl [I0]; · iexact I0
    isplitl [R10]; · iexact R10
    isplitl [K10]; · iexact K10
    iexact HO
  iintro ⟨I0, P10, HO⟩
  iapply (wp_turn X W c 0 1 1) $$ [I1 HO]
  · isplitl [I1]; · iexact I1
    iexact HO
  iintro ⟨I1, R01, -, HO⟩
  iapply (wp_pass X W K c 1 1 1 2 rfl rfl 1 rfl 3 rfl) $$ [I1 R11 K11 HO]
  · isplitr; · iexact HC
    isplitl [I1]; · iexact I1
    isplitl [R11]; · iexact R11
    isplitl [K11]; · iexact K11
    iexact HO
  iintro ⟨I1, P11, HO⟩
  iapply (wp_turn X W c 1 2 0) $$ [I0 HO]
  · isplitl [I0]; · iexact I0
    iexact HO
  iintro ⟨I0, R10, -, HO⟩
  iapply (wp_pass X W K c 2 0 2 3 rfl rfl 0 rfl 2 rfl) $$ [I0 R20 K20 HO]
  · isplitr; · iexact HC
    isplitl [I0]; · iexact I0
    isplitl [R20]; · iexact R20
    isplitl [K20]; · iexact K20
    iexact HO
  iintro ⟨I0, P20, HO⟩
  iapply (wp_turn X W c 1 2 1) $$ [I1 HO]
  · isplitl [I1]; · iexact I1
    iexact HO
  iintro ⟨I1, R11, -, HO⟩
  iapply (wp_pass X W K c 2 1 2 3 rfl rfl 1 rfl 3 rfl) $$ [I1 R21 K21 HO]
  · isplitr; · iexact HC
    isplitl [I1]; · iexact I1
    isplitl [R21]; · iexact R21
    isplitl [K21]; · iexact K21
    iexact HO
  iintro ⟨I1, P21, HO⟩
  iapply (wp_turn X W c 2 3 0) $$ [I0 HO]
  · isplitl [I0]; · iexact I0
    iexact HO
  iintro ⟨I0, R20, -, HO⟩
  iapply (wp_emit X W c 3 0 0 rfl 2 rfl) $$ [I0 R30]
  · isplitl [I0]; · iexact I0
    iexact R30
  iintro ⟨O0, Z0, C2⟩
  iapply (wp_turn X W c 2 3 1) $$ [I1 HO]
  · isplitl [I1]; · iexact I1
    iexact HO
  iintro ⟨I1, R21, -, HO⟩
  iapply (wp_emit X W c 3 1 1 rfl 3 rfl) $$ [I1 R31]
  · isplitl [I1]; · iexact I1
    iexact R31
  iintro ⟨O1, Z1, C3⟩
  iapply (wp_oWait W X c 3 0) $$ [O0 HO]
  · isplitl [O0]; · iexact O0
    iexact HO
  iintro ⟨O0, R30, T0, HO⟩
  iapply (wp_oWait W X c 3 1) $$ [O1 HO]
  · isplitl [O1]; · iexact O1
    iexact HO
  iintro ⟨O1, R31, T1, HO⟩
  unfold sentKit
  icases S0 with ⟨S0, A0⟩
  icases S1 with ⟨S1, A1⟩
  iapply (wp_sent X W K c 2 0 0 4 rfl 0 rfl [] (debts_drop c 9)) $$ [S0 A0 HO]
  · isplitr; · iexact HC
    isplitl [S0]; · iexact S0
    isplitl [A0]; · iexact A0
    iexact HO
  iintro ⟨C0, A0, HO⟩
  iapply (wp_sent X W K c 2 1 1 5 rfl 1 rfl [] (debts_drop c 9)) $$ [S1 A1 HO]
  · isplitr; · iexact HC
    isplitl [S1]; · iexact S1
    isplitl [A1]; · iexact A1
    iexact HO
  iintro ⟨C1, A1, HO⟩
  iapply Hk
  isplitl [O0 O1 Z0 Z1]
  · isplitl [O0 O1]
    · isplitl [O0]; · iexact O0
      iexact O1
    isplitl [Z0]; · iexact Z0
    iexact Z1
  isplitl [C0 C1 C2 C3]
  · isplitl [C0]; · iexact C0
    isplitl [C1]; · iexact C1
    isplitl [C2]; · iexact C2
    iexact C3
  isplitl [T0 T1]
  · isplitl [T0]; · iexact T0
    iexact T1
  isplitl [R00 R01 R10 R11 R20 R21 R30 R31]
  · isplitl [R00]; · iexact R00
    isplitl [R01]; · iexact R01
    isplitl [R10]; · iexact R10
    isplitl [R11]; · iexact R11
    isplitl [R20]; · iexact R20
    isplitl [R21]; · iexact R21
    isplitl [R30]; · iexact R30
    iexact R31
  isplitl [P00 P01 P10 P11 P20 P21]
  · isplitl [P00]; · iexact P00
    isplitl [P01]; · iexact P01
    isplitl [P10]; · iexact P10
    isplitl [P11]; · iexact P11
    isplitl [P20]; · iexact P20
    iexact P21
  isplitl [A0 A1]
  · isplitl [A0]; · iexact A0
    iexact A1
  iexact HO

end Rules

end Cert.KernelIdeal.Coll

end
-- ==== Proof.KernelIdeal.Whole.lean ====
/-
  The device's program as a whole, from what the launch gives it to what it gives back.
-/
module

public import proofs.«01_k».proof.Proof.KernelIdeal.Run

@[expose] public section

set_option maxRecDepth 65536

noncomputable section

namespace Cert.KernelIdeal.Coll

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal Cert.KernelIdeal.Gen

variable {F : FTy → Type} [FloatOps F]

local notation "𝕄" => MT nD τ sig Unit (Elt F) ℕ UU ℕ

/-- Conjunctions flattened. -/
theorem sep_flat (P Q R : sProp 𝕄) : iprop((P ∗ Q) ∗ R) = iprop(P ∗ Q ∗ R) := equiv_iff.mp ⟨BI.sep_assoc, BI.sep_assoc'⟩

/-- One thing for every kind of shared cell. -/
theorem kinds_eq (Φ : CK → sProp 𝕄) : bigSep Finset.univ Φ
    = (iprop(Φ .bar ∗ six (fun w h => Φ (.snd w h)) ∗ six (fun w h => Φ (.rcv w h)) ∗ three (fun i => Φ (.xs i)) ∗ three (fun i => Φ (.xr i))) : sProp 𝕄) := by
  rw [bigSep_univ_eq_bigSepL kinds (by decide) (by decide)]
  unfold kinds
  simp only [bigSepL_cons_cons, bigSepL_singleton, six, three, sep_flat]
  rfl

/-- What every member may use is spread over them. -/
theorem spread {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The device that duty `d` of a cell of kind `k` is owed to by device `c`. -/
def payee (c : Dev nD) : CK × Fin 3 → Dev nD
  | (.bar, d) => fw c d.castSucc
  | (.snd _ _, _) => c
  | (.rcv w _, _) => fw c w.castSucc
  | (.xs _, _) => c
  | (.xr i, _) => fw c i.castSucc

section Rules
variable (X : Dev nD → Vec F S1024x4096 .f32) (W : Dev nD → Vec F S4096x8192 .f32) (K : Dev nD × CK → ℕ) (c : Dev nD)

/-- The duties device `c` pays. -/
def payToks : sProp 𝕄 := bigSep Finset.univ fun k : CK => bigSep Finset.univ fun d : Fin 3 => dutyTok ER (cell (payee c (k, d)) k) 0 d
/-- Its place in its own cells' rounds. -/
def places : sProp 𝕄 := bigSep Finset.univ fun k : CK => atPos ER (cell c k) 0 ∅ 0
/-- What it may wait for that others send. -/
def credits : sProp 𝕄 :=
  iprop(cred (tallyAt (cell c .bar) () 3) ∗ six (fun w h => cred (tallyAt (cell c (.rcv w h)) () NT)) ∗ three (fun i => cred (tallyAt (cell c (.xr i)) () NM)))

/-- The tokens of what a device pays, one by one. -/
theorem payToks_open : payToks (F := F) c ⊢ iprop((dutyTok ER (cell (fw c 0) .bar) 0 0 ∗ dutyTok ER (cell (fw c 1) .bar) 0 1 ∗ dutyTok ER (cell (fw c 2) .bar) 0 2)
    ∗ six (fun w h => dutyTok ER (cell c (.snd w h)) 0 0) ∗ six (fun w h => dutyTok ER (cell (fw c w.castSucc) (.rcv w h)) 0 0)
    ∗ three (fun i => dutyTok ER (cell c (.xs i)) 0 0) ∗ three (fun i => dutyTok ER (cell (fw c i.castSucc) (.xr i)) 0 0)) := by
  have h1 : ∀ Φ : Fin 3 → sProp 𝕄, bigSep Finset.univ Φ = iprop(Φ 0 ∗ Φ 1 ∗ Φ 2) := fun Φ => bigSep_univ_eq_bigSepL [(0 : Fin 3), 1, 2] (by decide) (by decide) Φ
  have h0 : ∀ Φ : Fin 3 → sProp 𝕄, bigSep Finset.univ Φ ⊢ Φ 0 := fun Φ => bigSep_elim (Finset.mem_univ 0)
  unfold payToks
  rw [kinds_eq, h1]
  refine sep_mono_right (BI.sep_mono ?_ (BI.sep_mono ?_ (BI.sep_mono ?_ ?_)))
  · exact BI.sep_mono (h0 _) (BI.sep_mono (h0 _) (BI.sep_mono (h0 _) (BI.sep_mono (h0 _) (BI.sep_mono (h0 _) (h0 _)))))
  · exact BI.sep_mono (h0 _) (BI.sep_mono (h0 _) (BI.sep_mono (h0 _) (BI.sep_mono (h0 _) (BI.sep_mono (h0 _) (h0 _)))))
  · exact BI.sep_mono (h0 _) (BI.sep_mono (h0 _) (h0 _))
  · exact BI.sep_mono (h0 _) (BI.sep_mono (h0 _) (h0 _))

/-- The cells closed, their counters at zero. -/
theorem close_all : iprop(Ctx X W K ∗ bigSep Finset.univ fun k : CK => past c k)
    ⊢ (|={Set.univ}=> bigSep Finset.univ fun k : CK => semVal (cell c k) 0 : sProp 𝕄) := by
  refine (spread (Ψ := fun k : CK => iprop(|={Set.univ}=> semVal (cell c k) 0)) fun k _ => ?_).trans (bigSep_fupd _ _)
  iintro ⟨#HC, Ha⟩
  iapply (Rounds.cell_close ER (sched X W) (κ := K (c, k)) (g := cell c k) (Set.mem_univ _) (fun h => h) (R := 0 + 1) (duties_later X W (cell c k)))
  isplitr
  · iapply (ctx_inv X W K c k); iexact HC
  iexact Ha

/-- The semaphores of the local copies at zero. -/
def locals : sProp 𝕄 :=
  iprop((four (wRest (F := F) c 0) ∗ four (wRest (F := F) c 1)) ∗ (four (oOff (F := F) c 0) ∗ four (oOff (F := F) c 1)) ∗ (four (iOff (F := F) c 0) ∗ four (iOff (F := F) c 1)))
/-- The scratch arrays. -/
def scratch : sProp 𝕄 :=
  iprop((∃ f, ptW (F := F) c Finset.univ f) ∗ (∃ f, ptC (F := F) c Finset.univ f) ∗ (∃ f, ptM (F := F) c Finset.univ fullShare f))

/-- A device's places for device `bk c w` at the barrier. -/
theorem give (i : Fin 3) (w : Fin 4) (h : bk c w = fw c i.castSucc) (f : Vec F S4096x2048 .bf16) (g : Vec F S4x8x128 .f32) :
    iprop(ptS c (tileS (bk c w) 0) f ∗ ptS c (tileS (bk c w) 1) f ∗ ptM c (slotM (bk c w)) fullShare g) ⊢ barPay (F := F) c (fw c i.castSucc) := by
  rw [h]
  iintro ⟨H0, H1, H2⟩
  isplitl [H0]
  · iexists _; iexact H0
  isplitl [H1]
  · iexists _; iexact H1
  iexists _; iexact H2

/-- One device's whole body, from what it starts with to what it ends with. -/
theorem wp_body (Q : PUnit → sProp 𝕄) :
    iprop(Ctx X W K ∗ (places (F := F) c ∗ payToks (F := F) c ∗ credits (F := F) c) ∗ Ow c (debts₀ c) ∗ ptX c (X c) ∗ ptA c Finset.univ fullShare (W c)
        ∗ (∃ f, ptS (F := F) c Finset.univ f) ∗ (∃ f, ptR (F := F) c Finset.univ f) ∗ scratch (F := F) c ∗ locals (F := F) c)
      ⊢ iprop(((Ow c [] ∗ ptX c (X c) ∗ ptA c Finset.univ fullShare (W c) ∗ ptR c Finset.univ (outAll X W c) ∗ scratch (F := F) c ∗ locals (F := F) c
          ∗ bigSep Finset.univ fun k : CK => semVal (cell c k) 0) -∗ Q ⟨⟩) -∗ WP c body Q) := by
  unfold scratch locals credits places
  rw [kinds_eq (fun k : CK => atPos ER (cell c k) 0 ∅ 0)]
  iintro ⟨#HC, ⟨⟨PB, ⟨S00, S01, S10, S11, S20, S21⟩, ⟨R00, R01, R10, R11, R20, R21⟩, ⟨X0, X1, X2⟩, ⟨Y0, Y1, Y2⟩⟩, HT, ⟨CB, ⟨c00, c01, c10, c11, c20, c21⟩, ⟨d0, d1, d2⟩⟩⟩,
    HO, HX, HA, ⟨%fS, HS⟩, ⟨%fR, HR⟩, ⟨HW, HCm, ⟨%fM, HM⟩⟩, ⟨⟨LW0, LW1⟩, ⟨LO0, LO1⟩, ⟨LI0, LI1⟩⟩⟩ Hk
  ihave HT' := (payToks_open (F := F) c) $$ HT
  icases HT' with ⟨⟨B0, B1, B2⟩, ⟨s00, s01, s10, s11, s20, s21⟩, ⟨r00, r01, r10, r11, r20, r21⟩, ⟨x0, x1, x2⟩, ⟨y0, y1, y2⟩⟩
  ihave HS' := (Entails.of_eq (stage_tiles c fS)) $$ HS
  icases HS' with ⟨-, -, T10, T11, T20, T21, T30, T31⟩
  ihave HR' := (Entails.of_eq (result_tiles c fR)) $$ HR
  icases HR' with ⟨Q00, Q01, Q10, Q11, Q20, Q21, Q30, Q31⟩
  ihave HM' := (Entails.of_eq (maxima_four c fullShare fM)) $$ HM
  icases HM' with ⟨M0, M1, M2, M3⟩
  ihave HW' := (w_split (F := F) c) $$ HW
  icases HW' with ⟨w0, w1⟩
  ihave HCm' := (comm_split (F := F) c) $$ HCm
  icases HCm' with ⟨C0, C1, C2, C3⟩
  ihave HA' := (w_ready W c) $$ [HA LW0 LW1]
  · isplitl [HA]; · iexact HA
    isplitl [LW0]; · iexact LW0
    iexact LW1
  icases HA' with ⟨HA, LW0, LW1⟩
  unfold WP
  iapply (wp_fupd frame (wpE (defs₀ (F := F)) 𝒱₀ (c : Thread nD τ) none) Set.univ)
  unfold body
  rw [wp_bind]
  unfold Prog.lift
  rw [wp_deviceId, wp_ret]
  imodintro
  simp only [wp_bind]
  iapply (wp_barrier X W K c (debts c) (debts_lev c)) $$ [HO B0 B1 B2 T10 T11 T20 T21 T30 T31 M1 M2 M3 CB PB]
  · isplitr; · iexact HC
    isplitl [HO]; · iexact HO
    isplitl [B0 T30 T31 M3]
    · isplitl [B0]; · iexact B0
      iapply (give c 0 3 (bk_rev c 0) fS fM)
      isplitl [T30]; · iexact T30
      isplitl [T31]; · iexact T31
      iexact M3
    isplitl [B1 T20 T21 M2]
    · isplitl [B1]; · iexact B1
      iapply (give c 1 2 (bk_rev c 1) fS fM)
      isplitl [T20]; · iexact T20
      isplitl [T21]; · iexact T21
      iexact M2
    isplitl [B2 T10 T11 M1]
    · isplitl [B2]; · iexact B2
      iapply (give c 2 1 (bk_rev c 2) fS fM)
      isplitl [T10]; · iexact T10
      isplitl [T11]; · iexact T11
      iexact M1
    isplitl [CB]; · iexact CB
    iexact PB
  iintro ⟨HO, PB, ⟨G00, G01, N0⟩, ⟨G10, G11, N1⟩, ⟨G20, G21, N2⟩⟩
  iapply (wp_wStart W c 0 0) $$ [LW0 w0]
  · isplitl [LW0]; · iexact LW0
    iexact w0
  iintro LW0
  iapply (wp_wStart W c 0 1) $$ [LW1 w1]
  · isplitl [LW1]; · iexact LW1
    iexact w1
  iintro LW1
  iapply (wp_products X W K c) $$ [HX LW0 LW1 HO C0 C1 C2 C3 G00 G01 G10 G11 G20 G21 s00 s01 s10 s11 s20 s21 r00 r01 r10 r11 r20 r21 S00 S01 S10 S11]
  · isplitr; · iexact HC
    isplitl [HX]; · iexact HX
    isplitl [LW0 LW1]
    · isplitl [LW0]; · iexact LW0
      iexact LW1
    isplitl [HO]; · iexact HO
    isplitl [C0 C1 C2 C3]
    · isplitl [C0]; · iexact C0
      isplitl [C1]; · iexact C1
      isplitl [C2]; · iexact C2
      iexact C3
    isplitl [G00 G01 G10 G11 G20 G21 s00 s01 s10 s11 s20 s21 r00 r01 r10 r11 r20 r21]
    · unfold sendKit
      isplitl [G00 s00 r00]
      · isplitl [G00]; · iexact G00
        isplitl [s00]; · iexact s00
        iexact r00
      isplitl [G01 s01 r01]
      · isplitl [G01]; · iexact G01
        isplitl [s01]; · iexact s01
        iexact r01
      isplitl [G10 s10 r10]
      · isplitl [G10]; · iexact G10
        isplitl [s10]; · iexact s10
        iexact r10
      isplitl [G11 s11 r11]
      · isplitl [G11]; · iexact G11
        isplitl [s11]; · iexact s11
        iexact r11
      isplitl [G20 s20 r20]
      · isplitl [G20]; · iexact G20
        isplitl [s20]; · iexact s20
        iexact r20
      isplitl [G21]; · iexact G21
      isplitl [s21]; · iexact s21
      iexact r21
    isplitl [S00]; · iexact S00
    isplitl [S01]; · iexact S01
    isplitl [S10]; · iexact S10
    iexact S11
  iintro ⟨HX, ⟨LW0, w0⟩, ⟨LW1, w1⟩, ⟨C2, C3⟩, HO, ⟨S00, S01, S10, S11⟩, ⟨k20, k21⟩⟩
  iapply (wp_maxima X W K c _ rfl) $$ [HO M0 N0 N1 N2 x0 x1 x2 y0 y1 y2 X0 X1 X2 Y0 Y1 Y2 d0 d1 d2]
  · isplitr; · iexact HC
    isplitl [HO]; · iexact HO
    isplitl [M0]
    · iexists fM
      rw [bk_zero]
      iexact M0
    unfold maxKit maxWaits
    isplitl [N0 N1 N2 x0 x1 x2 y0 y1 y2]
    · isplitl [N0 x0 y0]
      · isplitl [N0]; · iexact N0
        isplitl [x0]; · iexact x0
        iexact y0
      isplitl [N1 x1 y1]
      · isplitl [N1]; · iexact N1
        isplitl [x1]; · iexact x1
        iexact y1
      isplitl [N2]; · iexact N2
      isplitl [x2]; · iexact x2
      iexact y2
    isplitl [X0 Y0 d0]
    · isplitl [X0]; · iexact X0
      isplitl [d0]; · iexact d0
      iexact Y0
    isplitl [X1 Y1 d1]
    · isplitl [X1]; · iexact X1
      isplitl [d1]; · iexact d1
      iexact Y1
    isplitl [X2]; · iexact X2
    isplitl [d2]; · iexact d2
    iexact Y2
  iintro ⟨HM, HO, ⟨X0, X1, X2⟩, ⟨Y0, Y1, Y2⟩⟩
  ihave w0' := (top_split (F := F) c 0) $$ w0
  icases w0' with ⟨t0, w0⟩
  ihave w1' := (top_split (F := F) c 1) $$ w1
  icases w1' with ⟨t1, w1⟩
  iapply (wp_finish X W K c) $$ [C2 C3 t0 t1 LO0 LO1 LI0 LI1 Q00 Q01 Q10 Q11 Q20 Q21 Q30 Q31 c00 c01 c10 c11 c20 c21 R00 R01 R10 R11 R20 R21 k20 k21 S20 S21 HO]
  · isplitr; · iexact HC
    isplitl [C2 C3 t0 t1 LO0 LO1 LI0 LI1]
    · unfold idle
      rw [bk_zero]
      isplitl [C2 t0 LO0 LI0]
      · isplitl [C2]; · iexact C2
        isplitl [t0]; · iexact t0
        isplitl [LO0]; · iexact LO0
        iexact LI0
      isplitl [C3]; · iexact C3
      isplitl [t1]; · iexact t1
      isplitl [LO1]; · iexact LO1
      iexact LI1
    isplitl [Q00 Q01 Q10 Q11 Q20 Q21 Q30 Q31]
    · isplitl [Q00]; · iexists fR; iexact Q00
      isplitl [Q01]; · iexists fR; iexact Q01
      isplitl [Q10]; · iexists fR; iexact Q10
      isplitl [Q11]; · iexists fR; iexact Q11
      isplitl [Q20]; · iexists fR; iexact Q20
      isplitl [Q21]; · iexists fR; iexact Q21
      isplitl [Q30]; · iexists fR; iexact Q30
      iexists fR; iexact Q31
    isplitl [c00 c01 c10 c11 c20 c21 R00 R01 R10 R11 R20 R21]
    · unfold recvKit
      isplitl [c00 R00]
      · isplitl [c00]; · iexact c00
        iexact R00
      isplitl [c01 R01]
      · isplitl [c01]; · iexact c01
        iexact R01
      isplitl [c10 R10]
      · isplitl [c10]; · iexact c10
        iexact R10
      isplitl [c11 R11]
      · isplitl [c11]; · iexact c11
        iexact R11
      isplitl [c20 R20]
      · isplitl [c20]; · iexact c20
        iexact R20
      isplitl [c21]; · iexact c21
      iexact R21
    isplitl [k20 k21 S20 S21]
    · unfold sentKit
      isplitl [k20 S20]
      · isplitl [k20]; · iexact k20
        iexact S20
      isplitl [k21]; · iexact k21
      iexact S21
    iexact HO
  iintro ⟨⟨⟨LO0, LO1⟩, ⟨LI0, LI1⟩⟩, HCm, ⟨t0, t1⟩, HR, ⟨R00, R01, R10, R11, R20, R21⟩, ⟨S20, S21⟩, HO⟩
  imod (close_all X W K c) $$ [PB S00 S01 S10 S11 S20 S21 R00 R01 R10 R11 R20 R21 X0 X1 X2 Y0 Y1 Y2] with HZ
  · isplitr; · iexact HC
    rw [kinds_eq (fun k : CK => past (F := F) c k)]
    isplitl [PB]; · iexact PB
    isplitl [S00 S01 S10 S11 S20 S21]
    · isplitl [S00]; · iexact S00
      isplitl [S01]; · iexact S01
      isplitl [S10]; · iexact S10
      isplitl [S11]; · iexact S11
      isplitl [S20]; · iexact S20
      iexact S21
    isplitl [R00 R01 R10 R11 R20 R21]
    · isplitl [R00]; · iexact R00
      isplitl [R01]; · iexact R01
      isplitl [R10]; · iexact R10
      isplitl [R11]; · iexact R11
      isplitl [R20]; · iexact R20
      iexact R21
    isplitl [X0 X1 X2]
    · isplitl [X0]; · iexact X0
      isplitl [X1]; · iexact X1
      iexact X2
    isplitl [Y0]; · iexact Y0
    isplitl [Y1]; · iexact Y1
    iexact Y2
  imodintro
  ihave HA' := (w_over W c) $$ [HA LW0 LW1]
  · isplitl [HA]; · iexact HA
    isplitl [LW0]; · iexact LW0
    iexact LW1
  icases HA' with ⟨HA, LW0, LW1⟩
  iapply Hk
  isplitl [HO]; · iexact HO
  isplitl [HX]; · iexact HX
  isplitl [HA]; · iexact HA
  isplitl [HR]
  · iapply (Entails.of_eq (result_tiles c (outAll X W c)).symm)
    iexact HR
  isplitl [t0 t1 w0 w1 HCm HM]
  · isplitl [t0 t1 w0 w1]
    · iapply (w_join (F := F) c)
      isplitl [t0 w0]
      · iapply (top_join (F := F) c 0)
        isplitl [t0]; · iexact t0
        iexact w0
      iapply (top_join (F := F) c 1)
      isplitl [t1]; · iexact t1
      iexact w1
    isplitl [HCm]
    · iapply (comm_join (F := F) c)
      iexact HCm
    iexists _; iexact HM
  isplitl [LW0 LW1 LO0 LO1 LI0 LI1]
  · isplitl [LW0 LW1]
    · isplitl [LW0]; · iexact LW0
      iexact LW1
    isplitl [LO0 LO1]
    · isplitl [LO0]; · iexact LO0
      iexact LO1
    isplitl [LI0]; · iexact LI0
    iexact LI1
  iexact HZ

end Rules

end Cert.KernelIdeal.Coll

end
-- ==== Proof.KernelIdeal.Deal.lean ====
/-
  What the launch deals: the shared cells' rounds opened for every device, each duty's token handed to the
  device that pays it, and the credit for what others send.
-/
module

public import proofs.«01_k».proof.Proof.KernelIdeal.Whole

@[expose] public section

set_option maxRecDepth 65536

noncomputable section

namespace Cert.KernelIdeal.Coll

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal Cert.KernelIdeal.Gen

variable {F : FTy → Type} [FloatOps F]

local notation "𝕄" => MT nD τ sig Unit (Elt F) ℕ UU ℕ

/-! ## The semaphores -/

/-- The kernel's own semaphores that it uses: those two devices share, then the local copies'. -/
def osem : Fin 42 → SemLoc sig := ![csem (.snd 0 0), csem (.snd 0 1), csem (.snd 1 0), csem (.snd 1 1), csem (.snd 2 0), csem (.snd 2 1),
  csem (.rcv 0 0), csem (.rcv 0 1), csem (.rcv 1 0), csem (.rcv 1 1), csem (.rcv 2 0), csem (.rcv 2 1),
  csem (.xs 0), csem (.xs 1), csem (.xs 2), csem (.xr 0), csem (.xr 1), csem (.xr 2),
  .dma (semW 0 0), .dma (semW 0 1), .dma (semW 0 2), .dma (semW 0 3), .dma (semW 1 0), .dma (semW 1 1), .dma (semW 1 2), .dma (semW 1 3),
  .dma (semO 0 0), .dma (semO 0 1), .dma (semO 0 2), .dma (semO 0 3), .dma (semO 1 0), .dma (semO 1 1), .dma (semO 1 2), .dma (semO 1 3),
  .dma (semI 0 0), .dma (semI 0 1), .dma (semI 0 2), .dma (semI 0 3), .dma (semI 1 0), .dma (semI 1 1), .dma (semI 1 2), .dma (semI 1 3)]

/-- The kernel's own semaphores are scoped, distinct and none of the pipeline's. -/
theorem ownSemFacts : Pipeline.OwnSemFacts cfg0.spec osem := by decide

/-- The kernel's own semaphores at zero. -/
abbrev own0 (c : Dev nD) : sProp 𝕄 := Pipeline.ownSems0 (Ix := Unit) (Name := ℕ) (U := UU) (Lvl := ℕ) (Val := Elt F) (τ := τ) osem c

/-- The own semaphores at zero, one by one. -/
theorem own0_eq (c : Dev nD) : own0 (F := F) c
    = iprop(six (fun w h => semVal (cell c (.snd w h)) 0) ∗ six (fun w h => semVal (cell c (.rcv w h)) 0) ∗ three (fun i => semVal (cell c (.xs i)) 0)
      ∗ three (fun i => semVal (cell c (.xr i)) 0) ∗ locals (F := F) c) := by
  unfold own0
  rw [Pipeline.ownSems0_eq_of_list c osem (List.finRange 42) (by decide) (by decide)]
  unfold locals
  simp only [six, three, four, sep_flat]
  rfl

/-- The barrier's is the one semaphore of the machine's. -/
theorem unscoped0_eq (c : Dev nD) : (unscopedSems0 c : sProp 𝕄) = semVal (cell c .bar) 0 := by
  unfold unscopedSems0
  rw [bigSep_eq_bigSepL_of_eq [SemLoc.reg semB] (by decide) (by decide)]
  rfl

/-- The barrier's put first, the local ones last. -/
theorem sorted (S R A B L H : sProp 𝕄) : iprop((S ∗ R ∗ A ∗ B ∗ L) ∗ H) = iprop((H ∗ S ∗ R ∗ A ∗ B) ∗ L) := by
  refine equiv_iff.mp ⟨?_, ?_⟩
  · show iprop((S ∗ R ∗ A ∗ B ∗ L) ∗ H) ⊢ iprop((H ∗ S ∗ R ∗ A ∗ B) ∗ L)
    iintro ⟨⟨S, R, A, B, L⟩, H⟩
    isplitr [L]
    · isplitl [H]; · iexact H
      isplitl [S]; · iexact S
      isplitl [R]; · iexact R
      isplitl [A]; · iexact A
      iexact B
    iexact L
  · show iprop((H ∗ S ∗ R ∗ A ∗ B) ∗ L) ⊢ iprop((S ∗ R ∗ A ∗ B ∗ L) ∗ H)
    iintro ⟨⟨H, S, R, A, B⟩, L⟩
    isplitr [H]
    · isplitl [S]; · iexact S
      isplitl [R]; · iexact R
      isplitl [A]; · iexact A
      isplitl [B]; · iexact B
      iexact L
    iexact H

/-- All semaphores at zero are the shared cells at zero and the local ones at zero. -/
theorem sems_eq (c : Dev nD) : iprop(own0 (F := F) c ∗ unscopedSems0 c) = (iprop((bigSep Finset.univ fun k : CK => semVal (cell c k) 0) ∗ locals (F := F) c) : sProp 𝕄) := by
  rw [own0_eq, unscoped0_eq, kinds_eq]
  exact sorted _ _ _ _ _ _

/-! ## The cells and the tokens -/

/-- Different devices or kinds have different cells. -/
theorem cell_inj : Function.Injective (fun p : Dev nD × CK => cell p.1 p.2) := by
  rintro ⟨c, k⟩ ⟨c', k'⟩ h
  have h1 : c = c' := congrArg (fun g : GSem nD τ sig => g.1.1) h
  have h2 : k = k' := csem_inj (congrArg Prod.snd h)
  rw [h1, h2]
/-- All shared cells of the machine. -/
def allCells : Finset (GSem nD τ sig) := Finset.univ.map ⟨fun p : Dev nD × CK => cell p.1 p.2, cell_inj⟩

/-- A cell's duties as minted. -/
abbrev tokOf (p : Dev nD × (CK × Fin 3)) : GSem nD τ sig × ℕ × Fin 3 := (cell p.1 p.2.1, 0, p.2.2)
/-- Different duties have different tokens. -/
theorem tokOf_inj : Function.Injective tokOf := by
  rintro ⟨c, k, d⟩ ⟨c', k', d'⟩ h
  have h1 : ((c, k) : Dev nD × CK) = (c', k') := cell_inj (congrArg Prod.fst h)
  have h2 : d = d' := congrArg (fun x : GSem nD τ sig × ℕ × Fin 3 => x.2.2) h
  rw [h2, (Prod.mk.inj h1).1, (Prod.mk.inj h1).2]
/-- All duty tokens of the machine. -/
def allToks : Finset (GSem nD τ sig × ℕ × Fin 3) := Finset.univ.map ⟨tokOf, tokOf_inj⟩

/-- The ghost state at the start: the pipeline's, the shared cells' and the local copies'. -/
def u₀ : UU := (initOf (Pipeline.cells cfgs cellOf_inj) (Pipeline.launchToks cfgs cellOf_inj), (initOf allCells allToks, 1))

/-- The device that pays a duty of device `c`'s cell. -/
def payer (c : Dev nD) : CK × Fin 3 → Dev nD
  | (.bar, d) => bk c d.succ
  | (.snd _ _, _) => c
  | (.rcv w _, _) => bk c w.succ
  | (.xs _, _) => c
  | (.xr i, _) => bk c i.succ

/-- The payer of what a device pays is that device. -/
theorem payer_payee (c : Dev nD) (p : CK × Fin 3) : payer (payee c p) p = c := by
  obtain ⟨k, d⟩ := p
  cases k
  · exact bk_fw c d
  · rfl
  · exact bk_fw c _
  · rfl
  · exact bk_fw c _
/-- What the payer pays to is the device paid. -/
theorem payee_payer (c : Dev nD) (p : CK × Fin 3) : payee (payer c p) p = c := by
  obtain ⟨k, d⟩ := p
  cases k
  · exact fw_bk c d
  · rfl
  · exact fw_bk c _
  · rfl
  · exact fw_bk c _

/-- Every duty of every device, seen from the device that pays it. -/
def deal : Dev nD × (CK × Fin 3) ≃ Dev nD × (CK × Fin 3) where
  toFun p := (payee p.1 p.2, p.2)
  invFun p := (payer p.1 p.2, p.2)
  left_inv p := Prod.ext (payer_payee p.1 p.2) rfl
  right_inv p := Prod.ext (payee_payer p.1 p.2) rfl

/-- The duty tokens, dealt from the device that is paid to the device that pays. -/
theorem toks_dealt : (bigSep Finset.univ fun p : Dev nD × (CK × Fin 3) => (dutyTok ER (cell p.1 p.2.1) 0 p.2.2 : sProp 𝕄)) = bigSep Finset.univ fun c : Dev nD => payToks (F := F) c := by
  rw [bigSep_univ_equiv deal, bigSep_univ_prod]
  refine bigSep_congr fun c _ => ?_
  rw [bigSep_univ_prod]
  rfl

section Deal
variable (X : Dev nD → Vec F S1024x4096 .f32) (W : Dev nD → Vec F S4096x8192 .f32)

/-- What the launch deals device `c`. -/
def G (c : Dev nD) : sProp 𝕄 :=
  iprop((bigSep Finset.univ fun k : CK => roundState ER (sched X W) (cell c k) 0)
    ∗ (bigSep Finset.univ fun k : CK => reached ER (cell c k) 0) ∗ places (F := F) c ∗ payToks (F := F) c)

/-- The ghost state at the start gives every device its cells and tokens. -/
theorem fund_all : BI.own (ER (initOf allCells allToks)) ⊢ (|==> bigSep Finset.univ (G X W) : sProp 𝕄) := by
  have hX (Φ : GSem nD τ sig → sProp 𝕄) : bigSep allCells Φ = bigSep Finset.univ fun c : Dev nD => bigSep Finset.univ fun k : CK => Φ (cell c k) := by
    unfold allCells; rw [bigSep_map, bigSep_univ_prod]; rfl
  have hT : bigSep allToks (fun x => (dutyTok ER x.1 x.2.1 x.2.2 : sProp 𝕄)) = bigSep Finset.univ fun c : Dev nD => payToks (F := F) c := by
    unfold allToks; rw [bigSep_map]
    exact toks_dealt
  iintro HX
  imod (Rounds.fund ER (sched X W) allCells allToks) $$ HX with ⟨Hst, Hr, Hat, Htok⟩
  imodintro
  ihave Hst' := (Entails.of_eq (hX fun g => roundState ER (sched X W) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G places; simp only [bigSep_sep']
  isplitl [Hst']; · iexact Hst'
  isplitl [Hr']; · iexact Hr'
  isplitl [Hat']; · iexact Hat'
  iexact Htok'

/-- The shared cells as every device knows them. -/
def recs (K : Dev nD × CK → ℕ) : sProp 𝕄 := bigSep Finset.univ fun p : Dev nD × CK => known X W K p
/-- The records of the cells may be copied. -/
instance recs_persistent (K : Dev nD × CK → ℕ) : BI.Persistent (recs X W K) := by unfold recs; infer_instance

/-- What device `c` starts with of all this. -/
def G' (c : Dev nD) : sProp 𝕄 := iprop((∃ K, recs X W K ∗ places (F := F) c ∗ payToks (F := F) c) ∗ locals (F := F) c)

/-- One device's cells, opened from their semaphores at zero. -/
theorem opened (c : Dev nD) : iprop(own0 (F := F) c ∗ unscopedSems0 c ∗ G X W c)
    ⊢ (|={Set.univ}=> iprop((bigSep Finset.univ fun k : CK => iprop(∃ κ : ℕ, cellInv ER (sched X W) κ (cell c k)))
      ∗ (bigSep Finset.univ fun k : CK => reached ER (cell c k) 0) ∗ (places (F := F) c ∗ payToks (F := F) c) ∗ locals (F := F) c) : sProp 𝕄) := by
  unfold G
  iintro ⟨Ho, Hu, Hst, Hr, Hat, Htok⟩
  ihave Hv := (Entails.of_eq (sems_eq (F := F) c)) $$ [Ho Hu]
  · isplitl [Ho]; · iexact Ho
    iexact Hu
  icases Hv with ⟨Hv, HL⟩
  imod (show iprop((bigSep Finset.univ fun k : CK => semVal (cell c k) 0) ∗ bigSep Finset.univ fun k : CK => roundState ER (sched X W) (cell c k) 0)
      ⊢ (|={Set.univ}=> bigSep Finset.univ fun k : CK => iprop(∃ κ : ℕ, cellInv ER (sched X W) κ (cell c k)) : sProp 𝕄) from by
        rw [← bigSep_sep']
        exact (bigSep_mono fun k _ => (Rounds.body_intro ER (sched X W) (cell c k)).trans inv_alloc).trans (bigSep_fupd _ _)) $$ [Hv Hst] with Hinv
  · isplitl [Hv]; · iexact Hv
    iexact Hst
  imodintro
  isplitl [Hinv]; · iexact Hinv
  isplitl [Hr]; · iexact Hr
  isplitl [Hat Htok]
  · isplitl [Hat]; · iexact Hat
    iexact Htok
  iexact HL

/-- All devices' cells opened, the records shared and the tokens dealt. -/
theorem gathered :
    (bigSep Finset.univ fun c : Dev nD => iprop((bigSep Finset.univ fun k : CK => iprop(∃ κ : ℕ, cellInv ER (sched X W) κ (cell c k)))
      ∗ (bigSep Finset.univ fun k : CK => reached ER (cell c k) 0) ∗ (places (F := F) c ∗ payToks (F := F) c) ∗ locals (F := F) c) : sProp 𝕄)
      ⊢ bigSep Finset.univ (G' X W) := by
  rw [bigSep_sep', bigSep_sep', bigSep_sep' (Φ := fun c : Dev nD => iprop(places (F := F) c ∗ payToks (F := F) c)),
    ← bigSep_univ_prod (fun p : Dev nD × CK => iprop(∃ κ : ℕ, cellInv ER (sched X W) κ (cell p.1 p.2))),
    ← bigSep_univ_prod (fun p : Dev nD × CK => (reached ER (cell p.1 p.2) 0 : sProp 𝕄))]
  iintro ⟨HI, HR, HP, HL⟩
  ihave HK := (BI.bigSep_exists_pi Finset.univ (fun (p : Dev nD × CK) (κ : ℕ) => (cellInv ER (sched X W) κ (cell p.1 p.2) : sProp 𝕄))) $$ HI
  icases HK with ⟨%K, HI⟩
  ihave HC := (Entails.of_eq (bigSep_sep' Finset.univ (fun p : Dev nD × CK => (cellInv ER (sched X W) (K p) (cell p.1 p.2) : sProp 𝕄)) (fun p => reached ER (cell p.1 p.2) 0)).symm) $$ [HI HR]
  · isplitl [HI]; · iexact HI
    iexact HR
  iapply (spread (R := recs X W K) (Φ := fun c : Dev nD => iprop((places (F := F) c ∗ payToks (F := F) c) ∗ locals (F := F) c)) fun c _ => by
    unfold G'
    iintro ⟨HC, HP, HL⟩
    isplitl [HC HP]
    · iexists K
      isplitl [HC]; · iexact HC
      iexact HP
    iexact HL)
  isplitl [HC]
  · unfold recs known; iexact HC
  iapply (Entails.of_eq (bigSep_sep' Finset.univ (fun c : Dev nD => iprop(places (F := F) c ∗ payToks (F := F) c)) (fun c => locals (F := F) c)).symm)
  isplitl [HP]; · iexact HP
  iexact HL

/-- Every device's semaphores become the shared cells, at once. -/
theorem glob : (bigSep Finset.univ fun c : Dev nD => iprop(own0 (F := F) c ∗ unscopedSems0 c ∗ G X W c) : sProp 𝕄) ⊢ |={Set.univ}=> bigSep Finset.univ (G' X W) :=
  ((bigSep_mono fun c _ => opened X W c).trans (bigSep_fupd _ _)).trans (BI.fupd_mono (gathered X W))

end Deal

/-! ## The credit -/

/-- What is owed to a cell is its payments in the list, each of its amount. -/
theorem due_count (l : List (Dev nD × CK)) (c : Dev nD) (k : CK) : due l (cell c k) () = l.count (c, k) * amt k := by
  induction l with
  | nil => rw [List.count_nil, Nat.zero_mul]; rfl
  | cons p l ih =>
    have e : due (p :: l) (cell c k) () = due l (cell c k) () + tallyAt (cell p.1 p.2) () (amt p.2) (cell c k) () := by
      show (due l + tallyAt (cell p.1 p.2) () (amt p.2)) (cell c k) () = _
      rw [Pi.add_apply, Finsupp.add_apply]
    rw [e, ih, tallyAt_apply, List.count_cons, Nat.add_mul]
    congr 1
    by_cases h : p = (c, k)
    · subst h; rw [if_pos ⟨rfl, rfl⟩, if_pos (by rw [beq_self_eq_true]), Nat.one_mul]
    · rw [if_neg fun x => h (cell_inj x.1).symm, if_neg fun x => h (eq_of_beq x), Nat.zero_mul]

/-- How often a cell is paid. -/
def often : CK → ℕ
  | .bar => 3
  | .rcv _ _ => 1
  | .xr _ => 1
  | _ => 0

set_option maxHeartbeats 0 in
/-- A cell is among the debts of all devices, counted together, as often as `often` says. -/
theorem count_all (c : Dev nD) (k : CK) : ∑ d : Dev nD, (debts₀ d).count (c, k) = often k := by revert c k; decide +kernel

/-- What all devices together owe a cell is what the cell expects. -/
theorem launch_cell (c : Dev nD) (k : CK) :
    tallyOn (cell c k) (launchCredit (Pipeline.owing fun d => due (debts₀ d)) 0 (cell c k)) = (tallyAt (cell c k) () (often k * amt k) : CellTallies nD τ sig Unit) := by
  unfold tallyAt
  refine congrArg _ (Finsupp.ext fun u => ?_)
  cases u
  rw [Pipeline.launchCredit_owing, Finsupp.single_eq_same, Finset.sum_congr rfl fun d _ => due_count (debts₀ d) c k, ← Finset.sum_mul, count_all]

/-- What a device is owed, by cell. -/
theorem creds (c : Dev nD) : (Pipeline.launchCred (fun d => due (debts₀ d)) c : sProp 𝕄) ⊢ credits (F := F) c := by
  have h : (Pipeline.launchCred (fun d => due (debts₀ d)) c : sProp 𝕄) ⊢ bigSep Finset.univ fun k : CK => cred (tallyAt (cell c k) () (often k * amt k)) := by
    unfold Pipeline.launchCred
    refine (bigSep_subset (Finset.subset_univ (Finset.univ.map (⟨csem, fun _ _ => csem_inj⟩ : CK ↪ SemLoc sig)))).trans ?_
    rw [bigSep_map]
    exact bigSep_mono fun k _ => Entails.of_eq (congrArg cred (launch_cell c k))
  refine h.trans ?_
  rw [kinds_eq]
  unfold credits
  dsimp only [six, three, often, amt]
  rw [Nat.one_mul, Nat.one_mul, Nat.mul_one]
  iintro ⟨B, -, R, -, A⟩
  isplitl [B]; · iexact B
  isplitl [R]; · iexact R
  iexact A

end Cert.KernelIdeal.Coll

end
-- ==== Proof.KernelIdeal.BodyEq.lean ====
/-
  The printed body is the chain of steps of `Body`: operation by operation, the same effects in the same
  order.
-/
module

public import proofs.«01_k».proof.Proof.KernelIdeal.Body

@[expose] public section

set_option maxRecDepth 65536

noncomputable section

namespace Cert.KernelIdeal.Coll

open Idealize.ShloMosaic Idealize.ShloMosaic.TcCoe Idealize.SL.Sem
open Cert.KernelIdeal Cert.KernelIdeal.Gen

variable {F : FTy → Type} [FloatOps F]

/-- Two programs that begin with the same operation are the same where they go on alike. -/
theorem step {α : Type} {e : Type} (op : TpuEff nD τ sig (Elt F) Λ₀ .tc e) {k k' : e → TC F α} (h : ∀ x, k x = k' x) : (Prog.op op k : TC F α) = Prog.op op k' := by
  rw [funext h]

set_option maxHeartbeats 0 in
/-- The body at the one grid point is the chain of steps. -/
theorem body_eq (t : Fin cfg0.N) : bodyAt0 (F := F) t = body := by
  obtain rfl := fin_N0 t
  repeat (refine step _ (fun _ => ?_))
  rfl

end Cert.KernelIdeal.Coll

end
-- ==== Proof.KernelIdeal.Launch.lean ====
/-
  The whole machine's run: from any memory with the counters at zero, every device's result ends as
  computed, the arguments as they were, and the counters at zero.
-/
module

public import proofs.«01_k».proof.Proof.KernelIdeal.Deal
public import proofs.«01_k».proof.Proof.KernelIdeal.BodyEq
public import Idealize.ShloMosaic.Lib.Quiescent
public import Idealize.ShloMosaic.Lib.Pipeline.CollectiveSegs

@[expose] public section

set_option maxRecDepth 65536

noncomputable section

namespace Cert.KernelIdeal.Coll

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal Cert.KernelIdeal.Gen

variable {F : FTy → Type} [FloatOps F]

local notation "𝕄" => MT nD τ sig Unit (Elt F) ℕ UU ℕ
open Idealize.ShloMosaic.Pipeline (Dat BodyObligation)

variable (m : (ℓ : Loc nD τ sig) → Buf (Elt F) ℓ) (ρ : Dev nD → PrngReg)

/-- Device `c`'s rows of x as they are staged. -/
def xin (c : Dev nD) : Vec F S1024x4096 .f32 := (win0_0.blk t0_0).view.read (Elt F) (m ((c : Thread nD τ).loc main_arg0))
/-- Device `c`'s w. -/
def win (c : Dev nD) : Vec F S4096x8192 .f32 := m ((c : Thread nD τ).loc main_arg1)

/-- Only the main core's cells have a level. -/
theorem L_of_ne (g : GSem nD τ sig) (h : g.1.2 ≠ .tc) : L g = ∅ := if_neg h

/-- What device `c` starts with beside its scratch. -/
def start (c : Dev nD) : sProp 𝕄 :=
  iprop(G' (xin m) (win m) c ∗ levAts L lv ∗ credits (F := F) c ∗ ptA c Finset.univ fullShare (win m c)
    ∗ (∃ f, ptS (F := F) c Finset.univ f) ∗ (∃ f, ptR (F := F) c Finset.univ f))
/-- What it ends with. -/
def done (c : Dev nD) : sProp 𝕄 :=
  iprop((scratch (F := F) c ∗ own0 (F := F) c) ∗ unscopedSems0 c ∗ ptA c Finset.univ fullShare (win m c) ∗ ptR c Finset.univ (outAll (xin m) (win m) c))

/-- The pipeline's data: one point, x staged whole. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xin m c
  Φ t := match t with
    | ⟨0, _⟩ => iprop(start m c ∗ scratch (F := F) c)
    | ⟨_ + 1, _⟩ => done m c
  q _ := fullShare
  owed t := match t with
    | ⟨0, _⟩ => due (debts₀ c)
    | ⟨_ + 1, _⟩ => 0

/-- A separate conjunction over the one window. -/
theorem bigSep_W (Φ : Fin cfg0.W → sProp 𝕄) : bigSep Finset.univ Φ = iprop(Φ (0 : Fin 1)) := bigSep_W0 Φ

/-- A buffer held whole through its reference. -/
theorem owns_whole_eq (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) (((c : Dev nD) : Thread nD τ).loc b), ⌜f = Y⌝ ∗ (((c : Thread nD τ).loc b) ↦{fullShare} f)) := by
  unfold owns; simp only [Memref.view_whole, View.read_whole, View.set_whole]

/-- The staged array at contents `Y`. -/
abbrev stg (c : Dev nD) (Y : Vec F S1024x4096 .f32) : sProp 𝕄 := iprop(∃ f : Vec F S1024x4096 .f32, ⌜f = Y⌝ ∗ ptX c f)

/-- The body runs from what a device starts with to what it ends with. -/
theorem body_obligation (c : Dev nD) : BodyObligation (dats (F := F) m ρ 0 c) (defs₀ (F := F)) 𝒱₀ () Set.univ := fun t => by
  rw [fin_N0 t]
  rw [bigSep_W, bigSep_W]
  simp only [owns_whole_eq]
  show iprop((start m c ∗ scratch (F := F) c) ∗ (dats m ρ 0 c).owesAt () t0_0.castSucc ∗ (∃ d, stg c ((dats m ρ 0 c).before (0 : Fin 1) t0_0 d)))
    ⊢ wp frame (wpE (defs₀ (F := F)) 𝒱₀ c none) Set.univ (bodyAt0 (F := F) t0_0)
      (fun _ => iprop(done m c ∗ (dats m ρ 0 c).owesAt () t0_0.succ ∗ stg c (xin m c)))
  rw [body_eq]
  unfold start G' Dat.owesAt Pipeline.owesWithin done
  rw [show (dats m ρ 0 c).owed t0_0.castSucc = due (debts₀ c) from rfl, show (dats m ρ 0 c).owed t0_0.succ = due [] from rfl]
  iintro ⟨⟨⟨⟨⟨%K, HC, HP, HT⟩, HL⟩, Hlev, Hcr, HA, HS, HR⟩, Hsc⟩, ⟨%V, %hV, HO⟩, ⟨%d, %g, %hg, HX⟩⟩
  have hx : g = xin m c := by rw [hg]; unfold Dat.before; rw [if_pos (fetch0_0 t0_0)]; rfl
  subst hx
  iapply (wp_body (xin m) (win m) K c) $$ [HC HP HT HL Hlev Hcr HA HS HR Hsc HO HX]
  · isplitl [HC Hlev]
    · unfold Ctx
      isplitl [HC]
      · unfold recs; iexact HC
      iexact Hlev
    isplitl [HP HT Hcr]
    · isplitl [HP]; · iexact HP
      isplitl [HT]; · iexact HT
      iexact Hcr
    isplitl [HO]
    · unfold Ow; iexists V; iexact HO
    isplitl [HX]; · iexact HX
    isplitl [HA]; · iexact HA
    isplitl [HS]; · iexact HS
    isplitl [HR]; · iexact HR
    isplitl [Hsc]; · iexact Hsc
    iexact HL
  unfold Ow
  iintro ⟨⟨%V', HO⟩, HX, HA, HR, Hsc, HL, HZ⟩
  ihave Hs := (Entails.of_eq (sems_eq (F := F) c).symm) $$ [HZ HL]
  · isplitl [HZ]; · iexact HZ
    iexact HL
  icases Hs with ⟨Ho, Hu⟩
  isplitl [Hsc Ho Hu HA HR]
  · isplitl [Hsc Ho]
    · isplitl [Hsc]; · iexact Hsc
      iexact Ho
    isplitl [Hu]; · iexact Hu
    isplitl [HA]; · iexact HA
    iexact HR
  isplitl [HO]
  · iexists V'
    isplitr; · ipureintro; exact fun _ _ => Or.inl trivial
    iexact HO
  iexists _
  isplitr; · ipureintro; rfl
  iexact HX

/-- The window's array is held whole. -/
theorem share_eq (c : Dev nD) (w : Fin cfg0.W) : (dats m ρ 0 c).share w = fullShare := by unfold Dat.share; split <;> rfl

/-- What the launch gives a device is what it starts with. -/
theorem start_intro (c : Dev nD) :
    iprop(Pipeline.unscopedRestP Pipeline.Prefetch.none cfg0.spec c (fun b => m ((c : Thread nD τ).loc b)) ∗ levAts L lv
        ∗ Pipeline.launchCred (fun d => due (debts₀ d)) c ∗ prngReg c (ρ c) ∗ G' (xin m) (win m) c)
      ⊢ |={Set.univ}=> iprop(start m c ∗ emp) := by
  rw [Pipeline.unscopedRestP_none]
  refine (sep_mono_left (Entails.of_eq (unscopedRest0_eq c fun b => m ((c : Thread nD τ).loc b)))).trans ?_
  iintro ⟨⟨HA, HR, HS⟩, Hlev, Hcr, -, HG⟩
  ihave Hc := (creds (F := F) c) $$ Hcr
  imodintro
  unfold start
  isplitl
  · isplitl [HG]; · iexact HG
    isplitl [Hlev]; · iexact Hlev
    isplitl [Hc]; · iexact Hc
    isplitl [HA]; · unfold win; iexact HA
    isplitl [HS]; · iexists _; iexact HS
    iexists _; iexact HR
  · iempintro

/-- What a device starts with and its scratch are what the body starts with. -/
theorem phi_in (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m c ∗ scratch (F := F) c) from rfl]
  refine (sep_mono_right (sep_mono_right (Entails.of_eq (scopedRest0_eq c)))).trans ?_
  iintro ⟨Hs, -, Hr⟩
  isplitl [Hs]; · iexact Hs
  unfold scratch; iexact Hr

/-- What is read of device `c` at the end. -/
def left (c : Dev nD) : sProp 𝕄 := iprop(unscopedSems0 c ∗ ptA c Finset.univ fullShare (win m c) ∗ ptR c Finset.univ (outAll (xin m) (win m) c))

/-- What the body ends with gives back the scratch and the semaphores at zero. -/
theorem phi_out (c : Dev nD) : (dats m ρ 0 c).Φ (Fin.last cfg0.N) ⊢ iprop(left m c ∗ Pipeline.ownSems0 osem c ∗ Pipeline.scopedRest cfg0.spec c) := by
  rw [show (dats m ρ 0 c).Φ (Fin.last cfg0.N) = done m c from rfl]
  refine BIBase.Entails.trans ?_ (sep_mono_right (sep_mono_right (Entails.of_eq (scopedRest0_eq c).symm)))
  unfold done left scratch
  iintro ⟨⟨Hsc, Ho⟩, Hl⟩
  isplitl [Hl]; · iexact Hl
  isplitl [Ho]; · iexact Ho
  iexact Hsc

/-- The pipeline's own waits are allowed. -/
theorem waits (c : Dev nD) : (levAts L lv : sProp 𝕄) ⊢ Pipeline.cellsWaits cfgs (dats m ρ) () 0 c :=
  Pipeline.cellsWaits_intro cfgs (dats m ρ) () 0 c fun w s t => by
    have hd : dec (.dma (((cfgs 0).win w).sem s)) = none := by fin_cases w; fin_cases s; decide
    rcases t with ⟨_ | _, ht⟩
    · exact may c _ (debts₀ c) (by rw [hd]; revert c; decide)
    · exact may c _ [] (fun p hp => absurd hp List.not_mem_nil)

/-- What a device's memory is at the end. -/
def Final (c : Dev nD) (s : MemSt nD τ sig (Elt F)) : Prop :=
  s.mem ((c : Thread nD τ).loc main_arg1) = win m c ∧ s.mem ((c : Thread nD τ).loc main_v1_0) = outAll (xin m) (win m) c

/-- What is left at the end, read off the final state. -/
theorem left_read (c : Dev nD) (s' : Phys nD τ sig (Elt F)) :
    iprop(left m c ∗ emp ∗ SI s') ⊢ |={Set.univ}=> iprop(⌜(∀ sm : SemLoc sig, sm.isScoped .tc = false → s'.mem.sem ((c.tc : Thread nD τ), sm) = 0) ∧ Final m c s'.mem⌝ ∗ SI s') := by
  unfold left
  iintro ⟨⟨Hu, HA, HR⟩, -, HSI⟩
  ihave %hA := (SI_pointsTo_agree (st := s') (ℓ := (c : Thread nD τ).loc main_arg1) (I := Finset.univ) (f := win m c)) $$ [HSI HA]
  · isplitl [HSI]; · iexact HSI
    iexact HA
  ihave %hR := (SI_pointsTo_agree (st := s') (ℓ := (c : Thread nD τ).loc main_v1_0) (I := Finset.univ) (f := outAll (xin m) (win m) c)) $$ [HSI HR]
  · isplitl [HSI]; · iexact HSI
    iexact HR
  imod (Pipeline.unscopedSems0_read (X := unscopedSems0 c) (c := c) fupd_intro s') $$ [Hu HSI] with ⟨%hs, HSI⟩
  · isplitl [Hu]; · iexact Hu
    iexact HSI
  imodintro
  isplitr
  · ipureintro
    exact ⟨hs, funext fun i => hA i (Finset.mem_univ i), funext fun i => hR i (Finset.mem_univ i)⟩
  iexact HSI

/-- The run of all devices. -/
theorem run_main : θ_run defs (onTc (τ := τ) (main (F := F))) (s₀ m ρ) (fun r =>
    (∀ c : Dev nD, r.2.mem ((c : Thread nD τ).loc main_arg0) = m ((c : Thread nD τ).loc main_arg0) ∧ Final m c r.2) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun c => (main_chain c).trans rfl)
    (hbody := body_obligation m ρ) (hne := block_pos0) (harr := arr_whole0) (hstage := stage_whole0) (hshare := share_eq m ρ)
    (hdistinct := winFacts0.arr_inj)
    (O₀ := fun d => due (debts₀ d)) (howed₀ := fun _ => rfl) (howedN := fun _ => rfl)
    (L := L) (lv := lv) (hL := L_of_ne) (hwaits := waits m ρ)
    (G := G (xin m) (win m)) (G' := G' (xin m) (win m)) (u₀ := u₀)
    (hu₀ := by
      unfold u₀
      iintro Hu
      ihave H := (ownU_pair _ _) $$ Hu
      icases H with ⟨HP, HX⟩
      ihave H2 := (own_pair_emb (A := UB) (B := Counters) embR (initOf allCells allToks) 1) $$ HX
      icases H2 with ⟨HX, -⟩
      imod (fund_all (xin m) (win m)) $$ HX with HG
      imodintro
      isplitl [HP]; · iexact HP
      iexact HG)
    (hglob := glob (xin m) (win m))
    (hA := fun _ _ => rfl) (hpf := fun _ k => k.elim0)
    (X := start m) (Y := left m) (Z := fun _ => iprop(emp))
    (hX := start_intro m ρ) (hin := phi_in m ρ) (hout := phi_out m ρ)
    (QY := fun c s => (∀ sm : SemLoc sig, sm.isScoped .tc = false → s.sem ((c.tc : Thread nD τ), sm) = 0) ∧ Final m c s)
    (hY := left_read m)
    (hQ := fun _ h hs => ⟨fun c => ⟨((h c).1 0).trans ((dats (F := F) m ρ 0 c).arrAt_in (0 : Fin 1) rfl _), (h c).2.2.2⟩, sem_eq_zero hs fun c => (h c).2.2.1⟩)

end Cert.KernelIdeal.Coll

end
-- ==== Proof.Value.Max.lean ====
/-
  Greatest values over the extended reals: what a reduction to a single value computes, bounded from above.
-/
module

public import Idealize.ShloMosaic.PureOps.Ideal.Laws
public import Idealize.ShloMosaic.Lib.ValueIdx
public import Idealize.ShloMosaic.Lib.ValueLayout

@[expose] public section

namespace Cert.QuantValue

open Idealize.ShloMosaic Idealize.ShloMosaic.ValueIdx

/-- A maximum over all axes, from minus infinity, is at most `b` exactly when every entry is. -/
theorem reduce_le {s t : Shape} {axes : List (Fin s.rank)} (src : FVec Ideal s .f32) (h : s.Reduces axes t)
    (ht : ∀ a, t.size a = 1) (hφ : FKind.Formats .f32) (hacc : (0xFF800000#32 : BitVec 32) = FKind.maximumf.neutral .f32 hφ)
    (j : t.Idx) (b : EReal) :
    multiReduction .maximumf axes t src 0xFF800000#32 h hφ hacc j ≤ b ↔ ∀ i, src i ≤ b := by
  have hall : (Finset.univ.filter fun i => h.drop i = j) = Finset.univ :=
    Finset.filter_true_of_mem fun i _ => funext fun a => Fin.ext (by
      have := (h.drop i a).isLt; have := (j a).isLt; have := ht a; omega)
  have hbot : (FloatOps.ofBits .f32 0xFF800000#32 : Ideal .f32) = ⊥ := by
    show Ideal.ofBits .f32 0xFF800000#32 = ⊥
    simp [Ideal.ofBits, Ideal.ieee]
  rw [multiReduction_maximumf_eq_fold, hall, hbot]
  exact (Finset.fold_max_le b).trans ⟨fun H i => H.2 i (Finset.mem_univ i), fun H => ⟨bot_le, fun i _ => H i⟩⟩

/-- A property of all entries of a reshaped array is the same property of all entries of the array. -/
theorem forall_shapeCast {s t : Shape} {α : Type} (x : s.Idx → α) (h : s.ShapeCasts t) (p : α → Prop) :
    (∀ i, p (shapeCast t x h i)) ↔ ∀ i, p (x i) :=
  ⟨fun H i => by have := H ((Shape.reshapeEquiv h).symm i); rwa [show shapeCast t x h _ = x (Shape.reshapeEquiv h _) from rfl, Equiv.apply_symm_apply] at this,
    fun H i => H _⟩

/-- A running maximum is at most `b` exactly when its start and everything folded in is. -/
theorem foldl_le {α : Type} (f : α → EReal) (l : List α) (z b : EReal) :
    l.foldl (fun acc p => max acc (f p)) z ≤ b ↔ z ≤ b ∧ ∀ p ∈ l, f p ≤ b := by
  induction l generalizing z with
  | nil => simp
  | cons p l ih => rw [List.foldl_cons, ih, max_le_iff, List.forall_mem_cons, and_assoc]

end Cert.QuantValue
-- ==== Proof.Value.Scale.lean ====
/-
  Scaling into the fp8 range and back, over the extended reals.

  The kernel multiplies by `c / g` where the reference divides by `g / c`. With `g` at least the entry's
  absolute value, both give the same once the clipped entry is scaled back by `g / c`: for a finite positive
  `g` the two factors are the same number; for `g = 0` scaling back gives zero; for `g = ⊤` both give zero
  before clipping.
-/
module

public import Idealize.ShloMosaic.PureOps.Ideal
public import Idealize.ShloMosaic.PureOps.Ideal.Laws

@[expose] public section

namespace Cert.QuantValue

open Idealize.ShloMosaic

/-- Multiplying by `c / g` and dividing by `g / c` agree after clipping and scaling back, for every `g` not
    below the entry's absolute value and every finite positive `c`. -/
theorem rescale (b : ℝ) (hb : 0 < b) (n g y : EReal) (hy : max y (-y) ≤ g) :
    min (b : EReal) (max n (y * Ideal.div b g)) * Ideal.div g b
      = min (b : EReal) (max n (Ideal.div y (Ideal.div g b))) * Ideal.div g b := by
  have hbe : (b : EReal) ≠ 0 := by exact_mod_cast hb.ne'
  have hg0 : 0 ≤ g := by
    rcases le_total 0 y with h | h
    · exact h.trans ((le_max_left _ _).trans hy)
    · exact (EReal.neg_nonneg.mpr h).trans ((le_max_right _ _).trans hy)
  induction g using EReal.rec with
  | bot => exact absurd hg0 (by simp)
  | top =>
    have e1 : Ideal.div (b : EReal) ⊤ = 0 := by unfold Ideal.div; simp
    have e2 : Ideal.div (⊤ : EReal) (b : EReal) = ⊤ := by
      unfold Ideal.div
      rw [if_neg hbe, ← EReal.coe_inv]
      exact EReal.top_mul_coe_of_pos (inv_pos.mpr hb)
    have e3 : Ideal.div y ⊤ = 0 := by unfold Ideal.div; simp
    rw [e1, e2, e3, mul_zero]
  | coe r =>
    have hr0 : 0 ≤ r := by exact_mod_cast hg0
    have e2 : Ideal.div (r : EReal) (b : EReal) = ((r * b⁻¹ : ℝ) : EReal) := by
      unfold Ideal.div
      rw [if_neg hbe, ← EReal.coe_inv, ← EReal.coe_mul]
    rcases hr0.eq_or_lt with h0 | hr
    · rw [e2, ← h0, zero_mul, EReal.coe_zero, mul_zero, mul_zero]
    · have hre : (r : EReal) ≠ 0 := by exact_mod_cast hr.ne'
      have hq : ((r * b⁻¹ : ℝ) : EReal) ≠ 0 := by exact_mod_cast (mul_pos hr (inv_pos.mpr hb)).ne'
      have e1 : Ideal.div (b : EReal) (r : EReal) = ((b * r⁻¹ : ℝ) : EReal) := by
        unfold Ideal.div
        rw [if_neg hre, ← EReal.coe_inv, ← EReal.coe_mul]
      have e3 : Ideal.div y ((r * b⁻¹ : ℝ) : EReal) = y * ((b * r⁻¹ : ℝ) : EReal) := by
        unfold Ideal.div
        rw [if_neg hq, ← EReal.coe_inv]
        congr 2
        rw [mul_inv, inv_inv, mul_comm]
      rw [e2, e3, e1]

end Cert.QuantValue
-- ==== Proof.Value.Tiles.lean ====
/-
  The kernel's tiles are pieces of the whole product, and its maximum is the whole product's.
-/
module

public import proofs.«01_k».proof.Proof.Value.Max
public import proofs.«01_k».proof.Proof.Value.Scale
public import proofs.«01_k».proof.Proof.KernelIdeal.Sched
public import proofs.«01_k».proof.Proof.Gen.ReferenceIdeal.Skeleton
public import Idealize.ShloMosaic.Lib.MatmulPlain
public import Idealize.ShloMosaic.Lib.Layout
public import Idealize.ShloMosaic.Lib.Pipeline.Value

@[expose] public section

set_option maxRecDepth 65536

noncomputable section

namespace Cert.QuantValue

open Idealize.ShloMosaic Idealize.ShloMosaic.ValueIdx
open Cert.KernelIdeal Cert.KernelIdeal.Gen Cert.KernelIdeal.Coll

/-- The whole arrays' product, entry by entry. -/
def prod (A : Vec Ideal Cert.ReferenceIdeal.S4096x4096 .f32) (B : Vec Ideal S4096x8192 .f32) (r : Fin 4096) (s : Fin 8192) : EReal :=
  ∑ k : Fin 4096, A (ix2 r k) * B (ix2 k s)

/-- One tile's product at a row and column: the sum over the shared axis. -/
theorem tile_apply (x : Vec Ideal S1024x4096 .f32) (w : Vec Ideal S1x4096x1024 .f32) (r s : Fin 1024) :
    k0_pay1 x w (ix2 r s) = ∑ k : Fin 4096, x (ix2 r k) * w (ix3 0 k s) := by
  unfold k0_pay1
  rw [shapeCast_self]
  simp only [matmul]
  rw [show dot_S1024x4096_S4096x1024_S1024x1024_1_0_0_1_n_n = DotDims.plain 1024 4096 1024 from rfl, Ideal.matmul_plain_apply]
  rw [show constant (F := Ideal) S1024x1024 .f32 0x00000000#32 (ix2 r s) = (0 : EReal) from Ideal.ofBits_zero_f32, zero_add]
  refine Finset.sum_congr rfl fun k _ => ?_
  rw [shapeCast_1ab_ab_apply]

section Whole
variable (A : Vec Ideal Cert.ReferenceIdeal.S4096x4096 .f32) (B : Vec Ideal S4096x8192 .f32)

/-- Device `e`'s rows of the whole left array. -/
def rowsOf (e : Dev nD) : Vec Ideal S1024x4096 .f32 := fun i =>
  A (ix2 ⟨e.val * 1024 + (i 0).val, by have h : (i 0).val < 1024 := (i 0).isLt; have he : e.val < 4 := e.isLt; omega⟩ (i 1))

/-- The row of the whole product that row `r` of device `e` is. -/
def atRow (e : Dev nD) (r : Fin 1024) : Fin 4096 := ⟨e.val * 1024 + r.val, by have he : e.val < 4 := e.isLt; omega⟩
/-- The column of the whole product that column `s` of half `h` for device `d` is. -/
def atCol (d : Dev nD) (h : Fin 2) (s : Fin 1024) : Fin 8192 := ⟨2048 * d.val + 1024 * h.val + s.val, by have hd : d.val < 4 := d.isLt; omega⟩

/-- A tile is a piece of the whole product. -/
theorem tile_eq (e d : Dev nD) (h : Fin 2) (r s : Fin 1024) :
    k0_pay1 (rowsOf A e) (wTile (fun _ => B) e d h) (ix2 r s) = prod A B (atRow e r) (atCol d h s) := by
  rw [tile_apply]; rfl

/-- The tile as sent, at a row and column. -/
theorem tl_apply (e d : Dev nD) (h : Fin 2) (r s : Fin 1024) :
    tl (rowsOf A) (fun _ => B) e d h (ix3 0 r s) = prod A B (atRow e r) (atCol d h s) := by
  rw [← tile_eq]
  unfold tl k0_pay3
  rw [shapeCast_ab_1ab_apply]; rfl

/-- The greatest absolute value of a tile. -/
def tileMax (x : Vec Ideal S1024x4096 .f32) (w : Vec Ideal S1x4096x1024 .f32) : EReal :=
  extractAt ![0, 0, 0] (shapeCast S1x1x1 (multiReduction .maximumf [1, 2] S1
    (shapeCast S1x1024x1024 (absf (k0_pay1 x w)) shapeCasts_S1024x1024_S1x1024x1024) 0xFF800000#32 reduces_S1x1024x1024_S1 (.inl rfl) rfl)
    shapeCasts_S1_S1x1x1) inpos_S1x1x1_p0_0_0

/-- The tiles after the first are computed by the same formula. -/
theorem later_eq (x : Vec Ideal S1024x4096 .f32) (w : Vec Ideal S1x4096x1024 .f32) : k0_pay4 x w = k0_pay1 x w := by
  unfold k0_pay4 k0_pay1; rfl

/-- One step of the running maximum: the larger of what was and the greatest absolute value of the tile. -/
theorem step_eq (acc : EReal) (x : Vec Ideal S1024x4096 .f32) (w : Vec Ideal S1x4096x1024 .f32) :
    (k0_pay5 (F := Ideal) acc x w : EReal) = max acc (tileMax x w) := by
  unfold k0_pay5 tileMax
  rw [later_eq]
  exact Ideal.scalar_maximumf_def _ _

/-- It is at most `b` exactly when every entry of the tile is, in absolute value. -/
theorem tileMax_le (e d : Dev nD) (h : Fin 2) (b : EReal) :
    tileMax (rowsOf A e) (wTile (fun _ => B) e d h) ≤ b ↔
      ∀ r s : Fin 1024, max (prod A B (atRow e r) (atCol d h s)) (-(prod A B (atRow e r) (atCol d h s))) ≤ b := by
  unfold tileMax extractAt
  rw [show ∀ (v : S1.Idx → EReal) (i : S1x1x1.Idx), shapeCast S1x1x1 v shapeCasts_S1_S1x1x1 i = v (Shape.reshapeEquiv shapeCasts_S1_S1x1x1 i) from fun _ _ => rfl]
  refine (reduce_le _ reduces_S1x1024x1024_S1 (fun a => by fin_cases a; rfl) (.inl rfl) rfl _ b).trans ?_
  rw [forall_shapeCast _ _ (fun v : EReal => v ≤ b)]
  constructor
  · intro H r s
    have := H (ix2 r s)
    rw [← tile_eq]; exact this
  · intro H i
    obtain ⟨r, s, rfl⟩ : ∃ r s : Fin 1024, i = ix2 r s := ⟨i 0, i 1, eq_ix2 i⟩
    have := H r s
    rw [← tile_eq] at this; exact this

/-- Every device of the other four is some number of steps ahead. -/
theorem fw_onto (e d : Dev nD) : ∃ a : Fin 4, fw e a = d := by revert e d; decide

/-- Every pair is in the order. -/
theorem mem_order (p : Fin 4 × Fin 2) : p ∈ order := by revert p; decide

/-- A device's maximum is at most `b` exactly when zero and every entry of its rows are, in absolute value. -/
theorem amx_le (e : Dev nD) (b : EReal) :
    (amx (rowsOf A) (fun _ => B) e : EReal) ≤ b ↔ 0 ≤ b ∧ ∀ (d : Dev nD) (h : Fin 2) (r s : Fin 1024),
      max (prod A B (atRow e r) (atCol d h s)) (-(prod A B (atRow e r) (atCol d h s))) ≤ b := by
  unfold amx
  rw [show accStep (F := Ideal) (rowsOf A) (fun _ => B) e
      = fun acc p => max acc (tileMax (rowsOf A e) (wTile (fun _ => B) e (fw e p.1) p.2)) from
    funext fun acc => funext fun p => step_eq acc _ _]
  rw [show (Scalar.ofBits .f32 0x00000000#32 : Ideal .f32) = (0 : EReal) from Ideal.ofBits_zero_f32]
  refine (foldl_le _ order 0 b).trans (and_congr_right fun _ => ?_)
  constructor
  · intro H d h r s
    obtain ⟨a, rfl⟩ := fw_onto e d
    exact (tileMax_le A B e (fw e a) h b).mp (H (a, h) (mem_order _)) r s
  · intro H p _
    exact (tileMax_le A B e _ _ b).mpr fun r s => H _ _ r s

/-- The kernel's maximum over all devices is at most `b` exactly when every entry of the product is, in absolute value. -/
theorem top_le (b : EReal) :
    (k0_pay29 (mAll (F := Ideal) (rowsOf A) (fun _ => B)) : EReal) ≤ b ↔ ∀ (r : Fin 4096) (s : Fin 8192), max (prod A B r s) (-(prod A B r s)) ≤ b := by
  have h1 : (k0_pay29 (mAll (F := Ideal) (rowsOf A) (fun _ => B)) : EReal) ≤ b ↔ ∀ i, (mAll (F := Ideal) (rowsOf A) (fun _ => B) i : EReal) ≤ b := by
    refine (reduce_le _ reduces_S1x4x8x128_S1 (fun a => by fin_cases a; rfl) (.inl rfl) rfl _ b).trans ?_
    exact forall_shapeCast _ _ (fun v : EReal => v ≤ b)
  have h2 : ∀ (e : Dev nD) (x : Fin 8) (y : Fin 128), (mAll (F := Ideal) (rowsOf A) (fun _ => B) (ix3 e x y) : EReal) = amx (rowsOf A) (fun _ => B) e := fun e x y => by
    unfold mAll k0_pay28
    rw [shapeCast_self, broadcast_apply]
  rw [h1]
  constructor
  · intro H r s
    have hr := r.isLt
    have hs := s.isLt
    have H1 := H (ix3 (⟨r.val / 1024, by omega⟩ : Fin 4) (0 : Fin 8) (0 : Fin 128))
    have H1 := (amx_le A B _ b).mp ((le_of_eq (h2 ⟨r.val / 1024, by show _ < 4; omega⟩ 0 0).symm).trans H1)
    have H2 := H1.2 ⟨s.val / 2048, by show _ < 4; omega⟩ ⟨s.val % 2048 / 1024, by omega⟩ ⟨r.val % 1024, by omega⟩ ⟨s.val % 1024, by omega⟩
    rw [show atRow ⟨r.val / 1024, by show _ < 4; omega⟩ ⟨r.val % 1024, by omega⟩ = r from
      Fin.ext (by show r.val / 1024 * 1024 + r.val % 1024 = r.val; omega),
      show atCol ⟨s.val / 2048, by show _ < 4; omega⟩ ⟨s.val % 2048 / 1024, by omega⟩ ⟨s.val % 1024, by omega⟩ = s from
        Fin.ext (by show 2048 * (s.val / 2048) + 1024 * (s.val % 2048 / 1024) + s.val % 1024 = s.val; omega)] at H2
    exact H2
  · intro H i
    rw [eq_ix3 i]
    refine (le_of_eq (h2 (i 0) (i 1) (i 2))).trans ((amx_le A B (i 0) b).mpr ?_)
    refine ⟨?_, fun d h r s => H _ _⟩
    refine le_trans ?_ (H 0 0)
    rcases le_total 0 (prod A B 0 0) with h | h
    · exact h.trans (le_max_left _ _)
    · exact (EReal.neg_nonneg.mpr h).trans (le_max_right _ _)

end Whole

end Cert.QuantValue

end
-- ==== Proof.Value.Result.lean ====
/-
  The kernel's result on each device is that device's columns of the reference's result.
-/
module

public import proofs.«01_k».proof.Proof.Value.Tiles

@[expose] public section

set_option maxRecDepth 65536

noncomputable section

namespace Cert.QuantValue

open Idealize.ShloMosaic Idealize.ShloMosaic.ValueIdx
open Cert.KernelIdeal Cert.KernelIdeal.Gen Cert.KernelIdeal.Coll

/-- The largest fp8 value, as the programs spell it. -/
theorem ofBits_top : (Ideal.ofBits .f32 0x43E00000#32 : EReal) = ((448 : ℝ) : EReal) := by
  simp [Ideal.ofBits, Ideal.ieee]
  norm_num
  rw [← EReal.coe_mul]
  norm_num

/-- A constant of the programs is the number its pattern spells. -/
theorem word_eq (w : BitVec 32) : (FloatOps.ofBits .f32 w : Ideal .f32) = Ideal.ofBits .f32 w := rfl

section Reference
variable (A : Vec Ideal Cert.ReferenceIdeal.S4096x4096 .f32) (B : Vec Ideal S4096x8192 .f32)

/-- The reference's product. -/
def refProd : FVec Ideal Cert.ReferenceIdeal.S4096x8192 .f32 :=
  matmul (φ₁ := .f32) (φ₂ := .f32) Cert.ReferenceIdeal.dot_S4096x4096_S4096x8192_S4096x8192_1_0_0_1_n_n none A B (constant Cert.ReferenceIdeal.S4096x8192 .f32 0x00000000#32)

/-- It is the whole product, entry by entry. -/
theorem refProd_apply (r : Fin 4096) (s : Fin 8192) : refProd A B (ix2 r s) = prod A B r s := by
  unfold refProd
  simp only [matmul]
  rw [show Cert.ReferenceIdeal.dot_S4096x4096_S4096x8192_S4096x8192_1_0_0_1_n_n = DotDims.plain 4096 4096 8192 from rfl, Ideal.matmul_plain_apply]
  rw [show constant (F := Ideal) Cert.ReferenceIdeal.S4096x8192 .f32 0x00000000#32 (ix2 r s) = (0 : EReal) from Ideal.ofBits_zero_f32, zero_add]
  rfl

/-- The reference's greatest absolute value. -/
def refMax : EReal :=
  extractAt ![0, 0, 0] (shapeCast Cert.ReferenceIdeal.S1x1x1 (multiReduction .maximumf [1, 2] Cert.ReferenceIdeal.S1
    (shapeCast Cert.ReferenceIdeal.S1x4096x8192 (absf (refProd A B)) Cert.ReferenceIdeal.Gen.shapeCasts_S4096x8192_S1x4096x8192)
    0xFF800000#32 Cert.ReferenceIdeal.Gen.reduces_S1x4096x8192_S1 (.inl rfl) rfl)
    Cert.ReferenceIdeal.Gen.shapeCasts_S1_S1x1x1) Cert.ReferenceIdeal.Gen.inpos_S1x1x1_p0_0_0

/-- It is at most `b` exactly when every entry of the product is, in absolute value. -/
theorem refMax_le (b : EReal) :
    refMax A B ≤ b ↔ ∀ (r : Fin 4096) (s : Fin 8192), max (prod A B r s) (-(prod A B r s)) ≤ b := by
  unfold refMax extractAt
  rw [show ∀ (v : Cert.ReferenceIdeal.S1.Idx → EReal) (i : Cert.ReferenceIdeal.S1x1x1.Idx),
    shapeCast Cert.ReferenceIdeal.S1x1x1 v Cert.ReferenceIdeal.Gen.shapeCasts_S1_S1x1x1 i
      = v (Shape.reshapeEquiv Cert.ReferenceIdeal.Gen.shapeCasts_S1_S1x1x1 i) from fun _ _ => rfl]
  refine (reduce_le _ Cert.ReferenceIdeal.Gen.reduces_S1x4096x8192_S1 (fun a => by fin_cases a; rfl) (.inl rfl) rfl _ b).trans ?_
  rw [forall_shapeCast _ _ (fun v : EReal => v ≤ b)]
  constructor
  · intro H r s
    have := H (ix2 r s)
    rw [← refProd_apply]; exact this
  · intro H i
    obtain ⟨r, s, rfl⟩ : ∃ (r : Fin 4096) (s : Fin 8192), i = ix2 r s := ⟨i 0, i 1, eq_ix2 i⟩
    have := H r s
    rw [← refProd_apply] at this; exact this

/-- The kernel's maximum over all devices is the reference's. -/
theorem max_eq : (k0_pay29 (mAll (F := Ideal) (rowsOf A) (fun _ => B)) : EReal) = refMax A B :=
  eq_of_forall_ge_iff fun b => (top_le A B b).trans (refMax_le A B b).symm

/-- The reference's result, entry by entry. -/
theorem ref_apply (r : Fin 4096) (s : Fin 8192) :
    (Cert.ReferenceIdeal.Gen.k0_pay1 (F := Ideal) A B (ix2 r s) : EReal)
      = min (Ideal.ofBits .f32 0x43E00000#32) (max (Ideal.ofBits .f32 0xC3E00000#32)
          (Ideal.div (prod A B r s) (Ideal.div (refMax A B) (Ideal.ofBits .f32 0x43E00000#32))))
        * Ideal.div (refMax A B) (Ideal.ofBits .f32 0x43E00000#32) := by
  rw [← refProd_apply]
  unfold Cert.ReferenceIdeal.Gen.k0_pay1 refMax refProd
  rw [mulf_apply, extf_apply, truncf_apply, minimumf_apply, maximumf_apply, divf_apply]
  simp only [broadcast_apply]
  simp only [Ideal.scalar_divf_def, word_eq]

end Reference

/-- The kernel's finished tile, entry by entry. -/
theorem finish_apply (sc iv : EReal) (y : Vec Ideal S1x1024x1024 .bf16) (r s : Fin 1024) :
    (Cert.KernelIdeal.Gen.k0_pay33 (F := Ideal) sc iv y (ix3 0 r s) : EReal)
      = min (Ideal.ofBits .f32 0x43E00000#32) (max (Ideal.ofBits .f32 0xC3E00000#32) (y (ix3 0 r s) * iv)) * sc := by
  unfold Cert.KernelIdeal.Gen.k0_pay33
  rw [shapeCast_ab_1ab_apply, mulf_apply, extf_apply, truncf_apply, minimumf_apply, maximumf_apply, mulf_apply, extf_apply, shapeCast_1ab_ab_apply]
  simp only [broadcast_apply, word_eq]

/-- The kernel's scale: its maximum over the largest fp8 value. -/
theorem scale_eq (v : Vec Ideal S4x8x128 .f32) : (k0_pay30 v : EReal) = Ideal.div (k0_pay29 v) (Ideal.ofBits .f32 0x43E00000#32) := by
  unfold k0_pay30
  exact Ideal.scalar_divf_def _ _

/-- Its inverse: the largest fp8 value over the maximum. -/
theorem inverse_eq (v : Vec Ideal S4x8x128 .f32) : (k0_pay31 v : EReal) = Ideal.div (Ideal.ofBits .f32 0x43E00000#32) (k0_pay29 v) := by
  unfold k0_pay31
  exact Ideal.scalar_divf_def _ _

/-- Device `d`'s result at an index is the reference's result at that row, `d` blocks of columns further. -/
theorem result_apply (A : Vec Ideal Cert.ReferenceIdeal.S4096x4096 .f32) (B : Vec Ideal S4096x8192 .f32) (d : Dev nD)
    (i : S4096x2048.Idx) (r : Fin 4096) (s : Fin 8192) (hr : r.val = (i 0).val) (hs : s.val = d.val * 2048 + (i 1).val) :
    (outAll (F := Ideal) (rowsOf A) (fun _ => B) d i : EReal) = Cert.ReferenceIdeal.Gen.k0_pay1 (F := Ideal) A B (ix2 r s) := by
  rw [ref_apply]
  unfold outAll outT scl Coll.inv inTile
  rw [finish_apply, tl_apply]
  have e1 : atRow (rowD i) ⟨(i 0).val % 1024, Nat.mod_lt _ (by decide)⟩ = r := Fin.ext (by
    show (i 0).val / 1024 * 1024 + (i 0).val % 1024 = r.val; omega)
  have e2 : atCol d (colH i) ⟨(i 1).val % 1024, Nat.mod_lt _ (by decide)⟩ = s := Fin.ext (by
    show 2048 * d.val + 1024 * ((i 1).val / 1024) + (i 1).val % 1024 = s.val; omega)
  rw [e1, e2]
  rw [scale_eq, inverse_eq, max_eq, ofBits_top]
  exact rescale 448 (by norm_num) _ _ _ ((refMax_le A B _).mp le_rfl r s)

end Cert.QuantValue

end
-- ==== Proof.Value.Meet.lean ====
/-
  The kernel's run and the reference's run, from memories holding the same arrays: each device's result is
  its block of columns of the reference's.
-/
module

public import proofs.«01_k».proof.Proof.Value.Result
public import proofs.«01_k».proof.Proof.KernelIdeal.Launch
public import proofs.«01_k».proof.Proof.Gen.ReferenceIdeal.Value

@[expose] public section

set_option maxRecDepth 65536

noncomputable section

namespace Cert.QuantValue

open Idealize.ShloMosaic Idealize.ShloMosaic.TcCoe Idealize.ShloMosaic.ValueIdx Idealize.SL.Sem
open Cert.KernelIdeal Cert.KernelIdeal.Gen Cert.KernelIdeal.Coll

/-- The staged block of x is the whole array: an index of the block is the same index of the array. -/
theorem staged_index (j : S1024x4096.Idx) : (win0_0.blk t0_0).view.emb j = j := by
  funext a; apply Fin.ext
  match a with
  | ⟨0, _⟩ => show 0 * 1024 + 1 * (j 0).val = (j 0).val; omega
  | ⟨1, _⟩ => show 0 * 4096 + 1 * (j 1).val = (j 1).val; omega

section
variable (m : (ℓ : Loc nD τ sig) → Buf (Elt Ideal) ℓ)
variable (A : Vec Ideal Cert.ReferenceIdeal.S4096x4096 .f32) (B : Vec Ideal S4096x8192 .f32)

/-- What a device stages of x is its rows of the whole array. -/
theorem xin_eq (c : Dev nD) (h : m ((c : Thread nD τ).loc main_arg0) = Layout.block ⟨2, ![1024, 4096]⟩ ⟨2, ![4096, 4096]⟩ 0 4 c A) :
    xin m c = rowsOf A c := by
  funext j
  unfold xin
  rw [h]
  show A (Layout.Tiles.idx (by decide) c ((win0_0.blk t0_0).view.emb j)) = rowsOf A c j
  rw [staged_index]
  refine congrArg A (funext fun a => Fin.ext ?_)
  match a with
  | ⟨0, _⟩ => rfl
  | ⟨1, _⟩ => rfl

/-- Every device's result is its block of columns of the reference's result. -/
theorem outAll_eq (d : Dev nD) (hx : xin m = rowsOf A) (hw : win m = fun _ => B) :
    outAll (F := Ideal) (xin m) (win m) d
      = Layout.block ⟨2, ![4096, 2048]⟩ ⟨2, ![4096, 8192]⟩ 1 4 d (Cert.ReferenceIdeal.Gen.k0_pay1 (F := Ideal) A B) := by
  rw [hx, hw]
  funext i
  have h : Layout.Tiles ⟨2, ![4096, 2048]⟩ ⟨2, ![4096, 8192]⟩ 1 4 := by decide
  have hv := Layout.idx_cols_val h d i
  rw [Layout.block_apply, result_apply A B d i (h.idx d i 0) (h.idx d i 1) hv.1 hv.2]
  exact congrArg (Cert.ReferenceIdeal.Gen.k0_pay1 (F := Ideal) A B) (eq_ix2 (h.idx d i)).symm

end

end Cert.QuantValue

end
-- ==== Proof.lean ====
/-
  The claims about the kernel and its reference, from the two runs.

  `Proof/Kernel/` and `Proof/KernelIdeal/` prove the kernel's run on four devices, at any reading of the
  floats; `Proof/Value/` proves that what it computes is what the reference computes, over the extended reals.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value
public import proofs.«01_k».proof.Proof.Kernel.Launch
public import proofs.«01_k».proof.Proof.KernelIdeal.Launch
public import proofs.«01_k».proof.Proof.Value.Meet
public import Idealize.ShloMosaic.Adequacy
public import Idealize.ShloMosaic.Init

@[expose] public section

noncomputable section

namespace Cert.Proof

open Idealize.ShloMosaic Idealize.SL.Sem

/-- The kernel runs on every device, keeps its arguments and leaves every counter at zero. -/
theorem kernel_frame : quiescent_Kernel (hKernel := Cert.Kernel.Gen.facts) := fun m ρ _ =>
  (θ_run _ _ _).mono (fun _ h => ⟨fun c => ⟨(h.1 c).1, (h.1 c).2.1⟩, h.2⟩) (Cert.Kernel.Coll.run_main (F := Bits) m ρ)

/-- So does its reading over the extended reals. -/
theorem ideal_frame : quiescent_KernelIdeal (hKernelIdeal := Cert.KernelIdeal.Gen.facts) := fun m ρ _ =>
  (θ_run _ _ _).mono (fun _ h => ⟨fun c => ⟨(h.1 c).1, (h.1 c).2.1⟩, h.2⟩) (Cert.KernelIdeal.Coll.run_main (F := Ideal) m ρ)

/-- So does the reference on its one device. -/
theorem reference_frame : quiescent_ReferenceIdeal (hReferenceIdeal := Cert.ReferenceIdeal.Gen.facts) := fun m ρ _ =>
  Cert.ReferenceIdeal.Gen.frame (F := Ideal) m ρ

/-- From the same arrays, each device's result is its block of columns of the reference's result. -/
theorem same_result : algebraic_KernelIdeal_ReferenceIdeal (hKernelIdeal := Cert.KernelIdeal.Gen.facts)
    (hReferenceIdeal := Cert.ReferenceIdeal.Gen.facts) := fun m ρ m' ρ' _ h =>
  ⟨_, (θ_run _ _ _).mono (fun _ hr c => ⟨(hr.1 c).2.2.trans (Cert.QuantValue.outAll_eq m _ _ c
        (funext fun d => Cert.QuantValue.xin_eq m _ d (h d).1) (funext fun d => (h d).2)),
      (hr.1 c).1, (hr.1 c).2.1⟩) (Cert.KernelIdeal.Coll.run_main (F := Ideal) m ρ),
    (θ_run _ _ _).mono (fun _ hr => hr 0) (Cert.ReferenceIdeal.Value.run (F := Ideal) m' ρ')⟩

/-- Everything claimed. -/
theorem claim : Cert.Claim :=
  ⟨Cert.Kernel.Gen.facts, Cert.KernelIdeal.Gen.facts, Cert.ReferenceIdeal.Gen.facts,
    kernel_frame, ideal_frame, reference_frame, trivial, same_result⟩

end Cert.Proof

end
